-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4096x1024 : Shape := ⟨2, ![4096, 1024]⟩
abbrev S512x1024 : Shape := ⟨2, ![512, 1024]⟩
abbrev S2 : Shape := ⟨1, ![2]⟩
abbrev S8 : Shape := ⟨1, ![8]⟩
abbrev S_ : Shape := ⟨0, ![]⟩
abbrev S1 : Shape := ⟨1, ![1]⟩

abbrev nBuf : Space → Nat
  | .hbm => 2
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) (c0_i32_28 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32 : BitVec 32 := 4096#32
  let v43 : BitVec 32 := Scalar.muli v13 c4096_i32
  let v44 : BitVec 32 := Scalar.addi v43 c0_i32_28
  let c0_i32_30 : BitVec 32 := 0#32
  ![v44.toNat, 0]
def k0_dev4 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v61 : BitVec 32 := Scalar.muli v2 c4_i32_41
  let v62 : BitVec 32 := Scalar.addi c0_i32_42 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v63 : BitVec 32 := Scalar.muli v5 c2_i32_43
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v65 : BitVec 32 := Scalar.muli v9 c1_i32_44
  let v66 : BitVec 32 := Scalar.addi v64 v65
  v66.toNat
def k0_dev5 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v86 : BitVec 32 := Scalar.muli v2 c4_i32_59
  let v87 : BitVec 32 := Scalar.addi c0_i32_60 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v88 : BitVec 32 := Scalar.muli v5 c2_i32_61
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v90 : BitVec 32 := Scalar.muli v9 c1_i32_62
  let v91 : BitVec 32 := Scalar.addi v89 v90
  v91.toNat
def k0_dev6 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v111 : BitVec 32 := Scalar.muli v2 c4_i32_77
  let v112 : BitVec 32 := Scalar.addi c0_i32_78 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v113 : BitVec 32 := Scalar.muli v5 c2_i32_79
  let v114 : BitVec 32 := Scalar.addi v112 v113
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_80 : BitVec 32 := 1#32
  let v115 : BitVec 32 := Scalar.muli v9 c1_i32_80
  let v116 : BitVec 32 := Scalar.addi v114 v115
  v116.toNat
def k0_dev7 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v136 : BitVec 32 := Scalar.muli v2 c4_i32_95
  let v137 : BitVec 32 := Scalar.addi c0_i32_96 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v138 : BitVec 32 := Scalar.muli v5 c2_i32_97
  let v139 : BitVec 32 := Scalar.addi v137 v138
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v140 : BitVec 32 := Scalar.muli v9 c1_i32_98
  let v141 : BitVec 32 := Scalar.addi v139 v140
  v141.toNat
def k0_dev8 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v161 : BitVec 32 := Scalar.muli v2 c4_i32_113
  let v162 : BitVec 32 := Scalar.addi c0_i32_114 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v163 : BitVec 32 := Scalar.muli v5 c2_i32_115
  let v164 : BitVec 32 := Scalar.addi v162 v163
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_116 : BitVec 32 := 1#32
  let v165 : BitVec 32 := Scalar.muli v9 c1_i32_116
  let v166 : BitVec 32 := Scalar.addi v164 v165
  v166.toNat
def k0_dev9 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v186 : BitVec 32 := Scalar.muli v2 c4_i32_130
  let v187 : BitVec 32 := Scalar.addi c0_i32_131 v186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v188 : BitVec 32 := Scalar.muli v5 c2_i32_132
  let v189 : BitVec 32 := Scalar.addi v187 v188
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_133 : BitVec 32 := 1#32
  let v190 : BitVec 32 := Scalar.muli v9 c1_i32_133
  let v191 : BitVec 32 := Scalar.addi v189 v190
  v191.toNat
def k0_dev10 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v211 : BitVec 32 := Scalar.muli v2 c4_i32_147
  let v212 : BitVec 32 := Scalar.addi c0_i32_148 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v213 : BitVec 32 := Scalar.muli v5 c2_i32_149
  let v214 : BitVec 32 := Scalar.addi v212 v213
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_150 : BitVec 32 := 1#32
  let v215 : BitVec 32 := Scalar.muli v9 c1_i32_150
  let v216 : BitVec 32 := Scalar.addi v214 v215
  v216.toNat
def k0_dev11 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v231 : BitVec 32 := Scalar.muli v2 c4_i32_161
  let v232 : BitVec 32 := Scalar.addi c0_i32_162 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v233 : BitVec 32 := Scalar.muli v5 c2_i32_163
  let v234 : BitVec 32 := Scalar.addi v232 v233
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_164 : BitVec 32 := 1#32
  let v235 : BitVec 32 := Scalar.muli v9 c1_i32_164
  let v236 : BitVec 32 := Scalar.addi v234 v235
  v236.toNat
def k0_dev12 (d0 : Dev nD) : Nat :=
  let c0_i32_199 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_198 : BitVec 32 := 4#32
  let v270 : BitVec 32 := Scalar.muli v10 c4_i32_198
  let v271 : BitVec 32 := Scalar.addi c0_i32_199 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v272 : BitVec 32 := Scalar.muli v5 c2_i32_200
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v274 : BitVec 32 := Scalar.muli v8 c1_i32_201
  let v275 : BitVec 32 := Scalar.addi v273 v274
  v275.toNat
def k0_dev13 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v282 : BitVec 32 := Scalar.muli v2 c4_i32_208
  let v283 : BitVec 32 := Scalar.addi c0_i32_209 v282
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_210 : BitVec 32 := 2#32
  let v284 : BitVec 32 := Scalar.muli v11 c2_i32_210
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v286 : BitVec 32 := Scalar.muli v8 c1_i32_211
  let v287 : BitVec 32 := Scalar.addi v285 v286
  v287.toNat
def k0_dev14 (d0 : Dev nD) : Nat :=
  let c0_i32_250 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_249 : BitVec 32 := 4#32
  let v326 : BitVec 32 := Scalar.muli v10 c4_i32_249
  let v327 : BitVec 32 := Scalar.addi c0_i32_250 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v328 : BitVec 32 := Scalar.muli v5 c2_i32_251
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v330 : BitVec 32 := Scalar.muli v8 c1_i32_252
  let v331 : BitVec 32 := Scalar.addi v329 v330
  v331.toNat
def k0_dev15 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v338 : BitVec 32 := Scalar.muli v2 c4_i32_259
  let v339 : BitVec 32 := Scalar.addi c0_i32_260 v338
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_261 : BitVec 32 := 2#32
  let v340 : BitVec 32 := Scalar.muli v11 c2_i32_261
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v342 : BitVec 32 := Scalar.muli v8 c1_i32_262
  let v343 : BitVec 32 := Scalar.addi v341 v342
  v343.toNat
def k0_dev16 (d0 : Dev nD) : Nat :=
  let c0_i32_303 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_302 : BitVec 32 := 4#32
  let v385 : BitVec 32 := Scalar.muli v10 c4_i32_302
  let v386 : BitVec 32 := Scalar.addi c0_i32_303 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v387 : BitVec 32 := Scalar.muli v5 c2_i32_304
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v389 : BitVec 32 := Scalar.muli v8 c1_i32_305
  let v390 : BitVec 32 := Scalar.addi v388 v389
  v390.toNat
def k0_dev17 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v397 : BitVec 32 := Scalar.muli v2 c4_i32_312
  let v398 : BitVec 32 := Scalar.addi c0_i32_313 v397
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_314 : BitVec 32 := 2#32
  let v399 : BitVec 32 := Scalar.muli v11 c2_i32_314
  let v400 : BitVec 32 := Scalar.addi v398 v399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v401 : BitVec 32 := Scalar.muli v8 c1_i32_315
  let v402 : BitVec 32 := Scalar.addi v400 v401
  v402.toNat
def k0_dev18 (d0 : Dev nD) : Nat :=
  let c0_i32_356 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_355 : BitVec 32 := 4#32
  let v444 : BitVec 32 := Scalar.muli v10 c4_i32_355
  let v445 : BitVec 32 := Scalar.addi c0_i32_356 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_357 : BitVec 32 := 2#32
  let v446 : BitVec 32 := Scalar.muli v5 c2_i32_357
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v448 : BitVec 32 := Scalar.muli v8 c1_i32_358
  let v449 : BitVec 32 := Scalar.addi v447 v448
  v449.toNat
def k0_dev19 (d0 : Dev nD) : Nat :=
  let c0_i32_366 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_365 : BitVec 32 := 4#32
  let v456 : BitVec 32 := Scalar.muli v2 c4_i32_365
  let v457 : BitVec 32 := Scalar.addi c0_i32_366 v456
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_367 : BitVec 32 := 2#32
  let v458 : BitVec 32 := Scalar.muli v11 c2_i32_367
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v460 : BitVec 32 := Scalar.muli v8 c1_i32_368
  let v461 : BitVec 32 := Scalar.addi v459 v460
  v461.toNat
def k0_dev20 (d0 : Dev nD) : Nat :=
  let c0_i32_409 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_408 : BitVec 32 := 4#32
  let v503 : BitVec 32 := Scalar.muli v10 c4_i32_408
  let v504 : BitVec 32 := Scalar.addi c0_i32_409 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v505 : BitVec 32 := Scalar.muli v5 c2_i32_410
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v507 : BitVec 32 := Scalar.muli v8 c1_i32_411
  let v508 : BitVec 32 := Scalar.addi v506 v507
  v508.toNat
def k0_dev21 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v515 : BitVec 32 := Scalar.muli v2 c4_i32_418
  let v516 : BitVec 32 := Scalar.addi c0_i32_419 v515
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_420 : BitVec 32 := 2#32
  let v517 : BitVec 32 := Scalar.muli v11 c2_i32_420
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_421 : BitVec 32 := 1#32
  let v519 : BitVec 32 := Scalar.muli v8 c1_i32_421
  let v520 : BitVec 32 := Scalar.addi v518 v519
  v520.toNat
def k0_dev22 (d0 : Dev nD) : Nat :=
  let c0_i32_462 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_461 : BitVec 32 := 4#32
  let v562 : BitVec 32 := Scalar.muli v10 c4_i32_461
  let v563 : BitVec 32 := Scalar.addi c0_i32_462 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v564 : BitVec 32 := Scalar.muli v5 c2_i32_463
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_464 : BitVec 32 := 1#32
  let v566 : BitVec 32 := Scalar.muli v8 c1_i32_464
  let v567 : BitVec 32 := Scalar.addi v565 v566
  v567.toNat
def k0_dev23 (d0 : Dev nD) : Nat :=
  let c0_i32_472 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_471 : BitVec 32 := 4#32
  let v574 : BitVec 32 := Scalar.muli v2 c4_i32_471
  let v575 : BitVec 32 := Scalar.addi c0_i32_472 v574
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_473 : BitVec 32 := 2#32
  let v576 : BitVec 32 := Scalar.muli v11 c2_i32_473
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_474 : BitVec 32 := 1#32
  let v578 : BitVec 32 := Scalar.muli v8 c1_i32_474
  let v579 : BitVec 32 := Scalar.addi v577 v578
  v579.toNat
def k0_dev24 (d0 : Dev nD) : Nat :=
  let c0_i32_515 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_514 : BitVec 32 := 4#32
  let v621 : BitVec 32 := Scalar.muli v10 c4_i32_514
  let v622 : BitVec 32 := Scalar.addi c0_i32_515 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v623 : BitVec 32 := Scalar.muli v5 c2_i32_516
  let v624 : BitVec 32 := Scalar.addi v622 v623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_517 : BitVec 32 := 1#32
  let v625 : BitVec 32 := Scalar.muli v8 c1_i32_517
  let v626 : BitVec 32 := Scalar.addi v624 v625
  v626.toNat
def k0_dev25 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v633 : BitVec 32 := Scalar.muli v2 c4_i32_524
  let v634 : BitVec 32 := Scalar.addi c0_i32_525 v633
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_526 : BitVec 32 := 2#32
  let v635 : BitVec 32 := Scalar.muli v11 c2_i32_526
  let v636 : BitVec 32 := Scalar.addi v634 v635
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v637 : BitVec 32 := Scalar.muli v8 c1_i32_527
  let v638 : BitVec 32 := Scalar.addi v636 v637
  v638.toNat
def k0_dev26 (d0 : Dev nD) : Nat :=
  let c0_i32_568 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_567 : BitVec 32 := 4#32
  let v680 : BitVec 32 := Scalar.muli v10 c4_i32_567
  let v681 : BitVec 32 := Scalar.addi c0_i32_568 v680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v682 : BitVec 32 := Scalar.muli v5 c2_i32_569
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_570 : BitVec 32 := 1#32
  let v684 : BitVec 32 := Scalar.muli v8 c1_i32_570
  let v685 : BitVec 32 := Scalar.addi v683 v684
  v685.toNat
def k0_dev27 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v692 : BitVec 32 := Scalar.muli v2 c4_i32_577
  let v693 : BitVec 32 := Scalar.addi c0_i32_578 v692
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_579 : BitVec 32 := 2#32
  let v694 : BitVec 32 := Scalar.muli v11 c2_i32_579
  let v695 : BitVec 32 := Scalar.addi v693 v694
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v696 : BitVec 32 := Scalar.muli v8 c1_i32_580
  let v697 : BitVec 32 := Scalar.addi v695 v696
  v697.toNat
def k0_dev28 (d0 : Dev nD) : Nat :=
  let c0_i32_602 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_601 : BitVec 32 := 4#32
  let v719 : BitVec 32 := Scalar.muli v10 c4_i32_601
  let v720 : BitVec 32 := Scalar.addi c0_i32_602 v719
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_603 : BitVec 32 := 2#32
  let v721 : BitVec 32 := Scalar.muli v5 c2_i32_603
  let v722 : BitVec 32 := Scalar.addi v720 v721
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_604 : BitVec 32 := 1#32
  let v723 : BitVec 32 := Scalar.muli v8 c1_i32_604
  let v724 : BitVec 32 := Scalar.addi v722 v723
  v724.toNat
def k0_off2 (d0 : Dev nD) (c0_i32_616 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_615 : BitVec 32 := 4096#32
  let v739 : BitVec 32 := Scalar.muli v19 c4096_i32_615
  let v740 : BitVec 32 := Scalar.addi v739 c0_i32_616
  let c0_i32_618 : BitVec 32 := 0#32
  ![v740.toNat, 0]
def k0_off3 (d0 : Dev nD) (c0_i32_636 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_635 : BitVec 32 := 4096#32
  let v762 : BitVec 32 := Scalar.muli v16 c4096_i32_635
  let v763 : BitVec 32 := Scalar.addi v762 c0_i32_636
  let c0_i32_638 : BitVec 32 := 0#32
  ![v763.toNat, 0]
def k0_dev29 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v800 : BitVec 32 := Scalar.muli v2 c4_i32_671
  let v801 : BitVec 32 := Scalar.addi c0_i32_672 v800
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_673 : BitVec 32 := 2#32
  let v802 : BitVec 32 := Scalar.muli v11 c2_i32_673
  let v803 : BitVec 32 := Scalar.addi v801 v802
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_674 : BitVec 32 := 1#32
  let v804 : BitVec 32 := Scalar.muli v8 c1_i32_674
  let v805 : BitVec 32 := Scalar.addi v803 v804
  v805.toNat
def k0_dev30 (d0 : Dev nD) : Nat :=
  let c0_i32_702 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_701 : BitVec 32 := 4#32
  let v835 : BitVec 32 := Scalar.muli v10 c4_i32_701
  let v836 : BitVec 32 := Scalar.addi c0_i32_702 v835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_703 : BitVec 32 := 2#32
  let v837 : BitVec 32 := Scalar.muli v5 c2_i32_703
  let v838 : BitVec 32 := Scalar.addi v836 v837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_704 : BitVec 32 := 1#32
  let v839 : BitVec 32 := Scalar.muli v8 c1_i32_704
  let v840 : BitVec 32 := Scalar.addi v838 v839
  v840.toNat
def k0_dev31 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_771 : BitVec 32 := 4#32
  let v916 : BitVec 32 := Scalar.muli v2 c4_i32_771
  let v917 : BitVec 32 := Scalar.addi c0_i32_772 v916
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_773 : BitVec 32 := 2#32
  let v918 : BitVec 32 := Scalar.muli v11 c2_i32_773
  let v919 : BitVec 32 := Scalar.addi v917 v918
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_774 : BitVec 32 := 1#32
  let v920 : BitVec 32 := Scalar.muli v8 c1_i32_774
  let v921 : BitVec 32 := Scalar.addi v919 v920
  v921.toNat
def k0_dev32 (d0 : Dev nD) : Nat :=
  let c0_i32_802 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_801 : BitVec 32 := 4#32
  let v951 : BitVec 32 := Scalar.muli v10 c4_i32_801
  let v952 : BitVec 32 := Scalar.addi c0_i32_802 v951
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_803 : BitVec 32 := 2#32
  let v953 : BitVec 32 := Scalar.muli v5 c2_i32_803
  let v954 : BitVec 32 := Scalar.addi v952 v953
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_804 : BitVec 32 := 1#32
  let v955 : BitVec 32 := Scalar.muli v8 c1_i32_804
  let v956 : BitVec 32 := Scalar.addi v954 v955
  v956.toNat
def k0_dev33 (d0 : Dev nD) : Nat :=
  let c0_i32_872 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_871 : BitVec 32 := 4#32
  let v1032 : BitVec 32 := Scalar.muli v2 c4_i32_871
  let v1033 : BitVec 32 := Scalar.addi c0_i32_872 v1032
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_873 : BitVec 32 := 2#32
  let v1034 : BitVec 32 := Scalar.muli v11 c2_i32_873
  let v1035 : BitVec 32 := Scalar.addi v1033 v1034
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_874 : BitVec 32 := 1#32
  let v1036 : BitVec 32 := Scalar.muli v8 c1_i32_874
  let v1037 : BitVec 32 := Scalar.addi v1035 v1036
  v1037.toNat
def k0_dev34 (d0 : Dev nD) : Nat :=
  let c0_i32_902 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_901 : BitVec 32 := 4#32
  let v1067 : BitVec 32 := Scalar.muli v10 c4_i32_901
  let v1068 : BitVec 32 := Scalar.addi c0_i32_902 v1067
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_903 : BitVec 32 := 2#32
  let v1069 : BitVec 32 := Scalar.muli v5 c2_i32_903
  let v1070 : BitVec 32 := Scalar.addi v1068 v1069
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_904 : BitVec 32 := 1#32
  let v1071 : BitVec 32 := Scalar.muli v8 c1_i32_904
  let v1072 : BitVec 32 := Scalar.addi v1070 v1071
  v1072.toNat
def k0_dev35 (d0 : Dev nD) : Nat :=
  let c0_i32_972 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_971 : BitVec 32 := 4#32
  let v1148 : BitVec 32 := Scalar.muli v2 c4_i32_971
  let v1149 : BitVec 32 := Scalar.addi c0_i32_972 v1148
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_973 : BitVec 32 := 2#32
  let v1150 : BitVec 32 := Scalar.muli v11 c2_i32_973
  let v1151 : BitVec 32 := Scalar.addi v1149 v1150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_974 : BitVec 32 := 1#32
  let v1152 : BitVec 32 := Scalar.muli v8 c1_i32_974
  let v1153 : BitVec 32 := Scalar.addi v1151 v1152
  v1153.toNat
def k0_off4 (d0 : Dev nD) (c0_i32_1006 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c4096_i32_1005 : BitVec 32 := 4096#32
  let v1191 : BitVec 32 := Scalar.muli v23 c4096_i32_1005
  let v1192 : BitVec 32 := Scalar.addi v1191 c0_i32_1006
  let c0_i32_1008 : BitVec 32 := 0#32
  ![v1192.toNat, 0]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.K.ProgEq.lean ====
/- The printed kernel is the program over channels and pieces of Prog.lean, by unfolding both. -/
module

public import proofs.«01_k».proof.Proof.K.Prog

@[expose] public section

noncomputable section

namespace Cert.Kernel.Own

open Cert.Kernel Cert.Kernel.Gen
open Idealize.ShloMosaic Idealize.SL.Sem

variable {F : FTy → Type} [FloatOps F]

set_option maxRecDepth 1000000 in
set_option maxHeartbeats 0 in
/-- The printed kernel is the program above, on the device it runs on. -/
theorem body_eq (t : Fin cfg0.N) :
    bodyAt0 (F := F) t = (do let c ← Prog.lift .deviceId; bodyOn c) := rfl

end Cert.Kernel.Own

end
-- ==== Proof.KI.Prog.lean ====
/- The kernel's body as a program over channels and pieces.

   A device's quarter of the rows is cut into eight pieces of 512 rows, and what one device sends another
   travels on one of five channels: `z` to the device across the mesh's z axis, `x1` and `y1` across x and y
   in the first round of the gather, `x2` and `y2` across x and y in the second. A channel has an array of
   eight send semaphores, one of eight receive semaphores, a buffer it sends from and one it lands in; each
   piece has one semaphore of each array and the same 512 rows of each buffer. The program here names
   a channel and a piece where the printed kernel names an argument and a literal offset; that the two are the
   same program is `body_eq` (ProgEq.lean). -/
module

public import proofs.«01_k».proof.Proof.Gen.KernelIdeal.Skeleton
public import proofs.«01_k».proof.Proof.Gen.KernelIdeal.Points

@[expose] public section

set_option synthInstance.maxSize 4096

noncomputable section

namespace Cert.KernelIdeal.Own

open Cert.KernelIdeal Cert.KernelIdeal.Gen
open Idealize.ShloMosaic Idealize.SL.Sem

/-- The five channels between devices. -/
inductive Ch where
  | z | x1 | y1 | x2 | y2
deriving DecidableEq

instance : Fintype Ch := ⟨{.z, .x1, .y1, .x2, .y2}, fun c => by cases c <;> decide⟩

/-! ## Semaphores -/

theorem inb2 : ∀ b : Fin 2, ∀ a, (![b.val] : Fin 1 → Nat) a + S1.size a ≤ S2.size a := by decide
theorem inb8 : ∀ p : Fin 8, ∀ a, (![p.val] : Fin 1 → Nat) a + S1.size a ≤ S8.size a := by decide

/-- The semaphore of the in-copy into slot `b`. -/
def inSem (b : Fin 2) : DmaSem sig :=
  ((cc0_scratch9.slice (Rect.unit (s := S2) ![b.val] S1.size (inb2 b))).squeeze S_ squeezes_S1_S_).sem
/-- The semaphore of the out-copy from slot `b`. -/
def outSem (b : Fin 2) : DmaSem sig :=
  ((cc0_scratch10.slice (Rect.unit (s := S2) ![b.val] S1.size (inb2 b))).squeeze S_ squeezes_S1_S_).sem

/-- A channel's send semaphores. -/
def sArr : Ch → DmaSems sig S8
  | .z => cc0_scratch11 | .x1 => cc0_scratch13 | .y1 => cc0_scratch15 | .x2 => cc0_scratch17 | .y2 => cc0_scratch19
/-- A channel's receive semaphores. -/
def rArr : Ch → DmaSems sig S8
  | .z => cc0_scratch12 | .x1 => cc0_scratch14 | .y1 => cc0_scratch16 | .x2 => cc0_scratch18 | .y2 => cc0_scratch20

/-- The send semaphore of a channel's piece. -/
def sSem (ch : Ch) (p : Fin 8) : DmaSem sig :=
  (((sArr ch).slice (Rect.unit (s := S8) ![p.val] S1.size (inb8 p))).squeeze S_ squeezes_S1_S_).sem
/-- The receive semaphore of a channel's piece. -/
def rSem (ch : Ch) (p : Fin 8) : DmaSem sig :=
  (((rArr ch).slice (Rect.unit (s := S8) ![p.val] S1.size (inb8 p))).squeeze S_ squeezes_S1_S_).sem

/-- The barrier semaphore. -/
def barS : Sem sig := (SemArray.scalar (sig.barrier 0 rfl) : Sems sig S_).sem

/-! ## Buffers -/

abbrev Big : Type := Memref sig .tc .vmem S4096x1024 .bf16
abbrev Row : Type := Memref sig .tc .vmem S512x1024 .f32

abbrev sqM : Big := Memref.whole cc0_scratch0
abbrev rzM : Big := Memref.whole cc0_scratch1
abbrev rxM : Big := Memref.whole cc0_scratch2
abbrev ryM : Big := Memref.whole cc0_scratch3
abbrev rdM : Big := Memref.whole cc0_scratch4

/-- The buffer a channel sends from. -/
def srcM : Ch → Big
  | .z => sqM | .x1 => sqM | .y1 => sqM | .x2 => ryM | .y2 => rxM
/-- The buffer a channel lands in. -/
def dstM : Ch → Big
  | .z => rzM | .x1 => rxM | .y1 => ryM | .x2 => rdM | .y2 => rdM

/-- The in-copy's slot `b`. -/
def xvM : Fin 2 → Row
  | 0 => Memref.whole cc0_scratch5
  | 1 => Memref.whole cc0_scratch6
/-- The out-copy's slot `b`. -/
def ovM : Fin 2 → Row
  | 0 => Memref.whole cc0_scratch7
  | 1 => Memref.whole cc0_scratch8

theorem srcM_whole : ∀ ch, (srcM ch).IsWhole
  | .z => Memref.isWhole_whole _ | .x1 => Memref.isWhole_whole _ | .y1 => Memref.isWhole_whole _
  | .x2 => Memref.isWhole_whole _ | .y2 => Memref.isWhole_whole _
theorem dstM_whole : ∀ ch, (dstM ch).IsWhole
  | .z => Memref.isWhole_whole _ | .x1 => Memref.isWhole_whole _ | .y1 => Memref.isWhole_whole _
  | .x2 => Memref.isWhole_whole _ | .y2 => Memref.isWhole_whole _
theorem xvM_whole : ∀ b, (xvM b).IsWhole
  | 0 => Memref.isWhole_whole _
  | 1 => Memref.isWhole_whole _
theorem ovM_whole : ∀ b, (ovM b).IsWhole
  | 0 => Memref.isWhole_whole _
  | 1 => Memref.isWhole_whole _

/-- A slot's whole rectangle. -/
abbrev rowR : Rect S512x1024 := Rect.unit (s := S512x1024) ![0, 0] S512x1024.size inb_S512x1024_S512x1024_0_0

theorem inbP : ∀ p : Fin 8, ∀ a, (![512 * p.val, 0] : Fin 2 → Nat) a + S512x1024.size a ≤ S4096x1024.size a := by decide

/-- The rows of piece `p` in a buffer of a quarter. -/
abbrev pieceR (p : Fin 8) : Rect S4096x1024 := Rect.unit (s := S4096x1024) ![512 * p.val, 0] S512x1024.size (inbP p)

theorem pieceR_words : ∀ p : Fin 8, (pieceR p).WholeWords (EltTy.packing .bf16) := by decide
theorem pieceR_packed : ∀ p : Fin 8, (pieceR p).PackedRows (EltTy.packing .bf16) := by decide

/-- Piece `p` of a buffer of a quarter. -/
def pc (m : Big) (p : Fin 8) : Memref sig .tc .vmem S512x1024 .bf16 := m.slice (pieceR p) (fun _ => rfl)

theorem pc_words {m : Big} (hm : m.IsWhole) (p : Fin 8) : (pc m p).view.WordExact :=
  hm.wordExact_slice rfl _ (pieceR_words p)

/-! ## The quarters of the arrays in HBM -/

abbrev Hbm : Type := Memref sig .tc .hbm S16384x1024 .f32

abbrev xM : Hbm := Memref.whole main_arg0
abbrev outM : Hbm := Memref.whole main_v1

/-- Whose quarter: the device's own, that of the device across y, across x, across both. -/
inductive Qt where
  | own | y | x | d
deriving DecidableEq

instance : Fintype Qt := ⟨{.own, .y, .x, .d}, fun c => by cases c <;> decide⟩

/-- The first row and column of piece `p` of a quarter, as device `c` computes them. -/
def qOff (c : Dev nD) (p : Fin 8) : Qt → Fin 2 → Nat
  | .own => k0_off1 c (BitVec.ofNat 32 (512 * p.val))
  | .y => k0_off2 c (BitVec.ofNat 32 (512 * p.val))
  | .x => k0_off3 c (BitVec.ofNat 32 (512 * p.val))
  | .d => k0_off4 c (BitVec.ofNat 32 (512 * p.val))

theorem qOff_inb (c : Dev nD) (p : Fin 8) : ∀ q a, qOff c p q a + S512x1024.size a ≤ S16384x1024.size a
  | .own => k0_off1_inb c p
  | .y => k0_off2_inb c p
  | .x => k0_off3_inb c p
  | .d => k0_off4_inb c p

/-- The rows of piece `p` of a quarter of device `c`'s arrays. -/
abbrev hR (c : Dev nD) (q : Qt) (p : Fin 8) : Rect S16384x1024 :=
  Rect.unit (s := S16384x1024) (qOff c p q) S512x1024.size (qOff_inb c p q)

/-- Piece `p` of a quarter of one of device `c`'s arrays. -/
def hp (m : Hbm) (c : Dev nD) (q : Qt) (p : Fin 8) : Memref sig .tc .hbm S512x1024 .f32 := m.slice (hR c q p) (fun _ => rfl)

/-! ## Devices -/

/-- The device that device `c`'s send of piece `p` on a channel addresses, as the kernel computes it. -/
def dv (c : Dev nD) : Ch → Fin 8 → Dev nD
  | .z, 0 => ⟨k0_dev4 c, k0_dev4_lt c⟩ | .z, 1 => ⟨k0_dev5 c, k0_dev5_lt c⟩ | .z, 2 => ⟨k0_dev6 c, k0_dev6_lt c⟩
  | .z, 3 => ⟨k0_dev7 c, k0_dev7_lt c⟩ | .z, 4 => ⟨k0_dev8 c, k0_dev8_lt c⟩ | .z, 5 => ⟨k0_dev9 c, k0_dev9_lt c⟩
  | .z, 6 => ⟨k0_dev10 c, k0_dev10_lt c⟩ | .z, 7 => ⟨k0_dev11 c, k0_dev11_lt c⟩
  | .x1, 0 => ⟨k0_dev12 c, k0_dev12_lt c⟩ | .x1, 1 => ⟨k0_dev14 c, k0_dev14_lt c⟩ | .x1, 2 => ⟨k0_dev16 c, k0_dev16_lt c⟩
  | .x1, 3 => ⟨k0_dev18 c, k0_dev18_lt c⟩ | .x1, 4 => ⟨k0_dev20 c, k0_dev20_lt c⟩ | .x1, 5 => ⟨k0_dev22 c, k0_dev22_lt c⟩
  | .x1, 6 => ⟨k0_dev24 c, k0_dev24_lt c⟩ | .x1, 7 => ⟨k0_dev26 c, k0_dev26_lt c⟩
  | .y1, 0 => ⟨k0_dev13 c, k0_dev13_lt c⟩ | .y1, 1 => ⟨k0_dev15 c, k0_dev15_lt c⟩ | .y1, 2 => ⟨k0_dev17 c, k0_dev17_lt c⟩
  | .y1, 3 => ⟨k0_dev19 c, k0_dev19_lt c⟩ | .y1, 4 => ⟨k0_dev21 c, k0_dev21_lt c⟩ | .y1, 5 => ⟨k0_dev23 c, k0_dev23_lt c⟩
  | .y1, 6 => ⟨k0_dev25 c, k0_dev25_lt c⟩ | .y1, 7 => ⟨k0_dev27 c, k0_dev27_lt c⟩
  | .x2, 0 => ⟨k0_dev28 c, k0_dev28_lt c⟩ | .y2, 1 => ⟨k0_dev29 c, k0_dev29_lt c⟩ | .x2, 2 => ⟨k0_dev30 c, k0_dev30_lt c⟩
  | .y2, 3 => ⟨k0_dev31 c, k0_dev31_lt c⟩ | .x2, 4 => ⟨k0_dev32 c, k0_dev32_lt c⟩ | .y2, 5 => ⟨k0_dev33 c, k0_dev33_lt c⟩
  | .x2, 6 => ⟨k0_dev34 c, k0_dev34_lt c⟩ | .y2, 7 => ⟨k0_dev35 c, k0_dev35_lt c⟩
  | .x2, _ => ⟨k0_dev2 c, k0_dev2_lt c⟩ | .y2, _ => ⟨k0_dev3 c, k0_dev3_lt c⟩

/-- The slot of step `n`. -/
def par (n : Nat) : Fin 2 := ⟨n % 2, Nat.mod_lt _ (by decide)⟩

/-- The second round's channel of piece `p`: across x the even pieces, across y the odd. -/
def r2 (p : Fin 8) : Ch := if p.val % 2 = 0 then .x2 else .y2

/-! ## The program -/

variable {F : FTy → Type} [FloatOps F]

abbrev Act (F : FTy → Type) [FloatOps F] (α : Type) : Type 1 := Prog (TpuEff nD τ sig (Elt F) Λ₀ .tc) α

/-- A piece of the input, rounded to what is sent. -/
def rnd (v : Vec F S512x1024 .f32) : FVec F S512x1024 .bf16 :=
  shapeCast S512x1024 (truncf .bf16 v bitsLt_bf16_f32) shapeCasts_S512x1024_S512x1024
/-- A received piece, widened to the result's type. -/
def wide (v : Vec F S512x1024 .bf16) : FVec F S512x1024 .f32 :=
  shapeCast S512x1024 (extf .f32 v bitsLt_bf16_f32) shapeCasts_S512x1024_S512x1024
/-- The sum of two pieces, in the result's type. -/
def add2 (v w : Vec F S512x1024 .bf16) : FVec F S512x1024 .f32 :=
  shapeCast S512x1024 (addf (extf .f32 v bitsLt_bf16_f32) (extf .f32 w bitsLt_bf16_f32)) shapeCasts_S512x1024_S512x1024

/-- Load piece `p` of a buffer. -/
def ldP (m : Big) (p : Fin 8) : Act F (Vec F S512x1024 .bf16) :=
  Prog.lift (.load m (pieceR p).toLoadRect (View.loadsAt_vmem h_S512x1024))
/-- Load a slot. -/
def ldR (m : Row) : Act F (Vec F S512x1024 .f32) :=
  Prog.lift (.load m rowR.toLoadRect (View.loadsAt_vmem h_S512x1024))
/-- Store piece `p` of the quarter's buffer. -/
def stP (p : Fin 8) (v : FVec F S512x1024 .bf16) : Act F PUnit :=
  Prog.lift (.store sqM (pieceR p) v Finset.univ (View.stores_vmem h_S512x1024
    ((Memref.isWhole_whole _).storeExact_slice rfl _ (pieceR_packed p)) (fun _ => rfl)) (.inl rfl))
/-- Store slot `b` of the out-copy. -/
def stO (b : Fin 2) (v : FVec F S512x1024 .f32) : Act F PUnit :=
  Prog.lift (.store (ovM b) rowR v Finset.univ (View.stores_vmem h_S512x1024
    (View.storeExact_bits _ _ rfl) (fun _ => rfl)) (.inl rfl))
/-- Start the in-copy of piece `p`. -/
def inGo (c : Dev nD) (p : Fin 8) : Act F PUnit :=
  Prog.lift (.enqueueDma (hp xM c .own p) (.here (xvM (par p.val))) (.dma (inSem (par p.val)))
    (View.wordExact_bits rfl) (xvM_whole _).wordExact ⟨Or.inl rfl, trivial⟩)
/-- Wait for the in-copy of piece `p`. -/
def inWait (c : Dev nD) (p : Fin 8) : Act F PUnit :=
  Prog.lift (.waitDma2 (inSem (par p.val)) (hp xM c .own p) (xvM (par p.val)) (View.wordExact_bits rfl) (xvM_whole _).wordExact)
/-- Start the out-copy of slot `b` into piece `p` of quarter `q`. -/
def outGo (c : Dev nD) (b : Fin 2) (q : Qt) (p : Fin 8) : Act F PUnit :=
  Prog.lift (.enqueueDma (ovM b) (.here (hp outM c q p)) (.dma (outSem b))
    (ovM_whole _).wordExact (View.wordExact_bits rfl) ⟨Or.inl rfl, trivial⟩)
/-- Wait for the out-copy of slot `b` into piece `p` of quarter `q`. -/
def outWait (c : Dev nD) (b : Fin 2) (q : Qt) (p : Fin 8) : Act F PUnit :=
  Prog.lift (.waitDma2 (outSem b) (ovM b) (hp outM c q p) (ovM_whole _).wordExact (View.wordExact_bits rfl))
/-- Send piece `p` on a channel. -/
def send (c : Dev nD) (ch : Ch) (p : Fin 8) : Act F PUnit :=
  Prog.lift (.enqueueDma (pc (srcM ch) p) (.remote (Dev.tc (dv c ch p)) (pc (dstM ch) p) (.dma (sSem ch p))) (.dma (rSem ch p))
    (pc_words (srcM_whole ch) p) (pc_words (dstM_whole ch) p) ⟨⟨rfl, Or.inl rfl⟩, trivial⟩)
/-- Wait for a send's source. -/
def sWait (ch : Ch) (p : Fin 8) : Act F PUnit :=
  Prog.lift (.waitDma2 (sSem ch p) (pc (dstM ch) p) (pc (srcM ch) p) (pc_words (dstM_whole ch) p) (pc_words (srcM_whole ch) p))
/-- The buffer a wait for a landing names as the source: of the source only the shape counts. -/
def rwM : Ch → Big
  | .z => sqM | .x1 => sqM | .y1 => sqM | .x2 => ryM | .y2 => ryM
theorem rwM_whole : ∀ ch, (rwM ch).IsWhole
  | .z => Memref.isWhole_whole _ | .x1 => Memref.isWhole_whole _ | .y1 => Memref.isWhole_whole _
  | .x2 => Memref.isWhole_whole _ | .y2 => Memref.isWhole_whole _
/-- Wait for a landing. -/
def rWait (ch : Ch) (p : Fin 8) : Act F PUnit :=
  Prog.lift (.waitDma2 (rSem ch p) (pc (rwM ch) p) (pc (dstM ch) p) (pc_words (rwM_whole ch) p) (pc_words (dstM_whole ch) p))

/-- The quarter that step `s` of the out-copies writes: eight of the device's own, eight pairs of the quarter across y
    and the quarter across x, eight of the quarter across both. -/
def oq (s : Nat) : Qt := if s < 8 then .own else if s < 24 then (if s % 2 = 0 then .y else .x) else .d
/-- The piece that step `s` of the out-copies writes. -/
def op (s : Nat) : Fin 8 := ⟨(if s < 8 then s else if s < 24 then (s - 8) / 2 else s - 24) % 8, Nat.mod_lt _ (by decide)⟩

/-- Wait for the out-copy of two steps ago, which used the same slot. -/
def oldWait (c : Dev nD) (s : Nat) : Act F PUnit :=
  if 2 ≤ s then outWait c (par s) (oq (s - 2)) (op (s - 2)) else pure ⟨⟩

/-- Step `s` of the out-copies from a buffer that holds a landed piece. -/
def copyOut (c : Dev nD) (s : Nat) (m : Big) : Act F PUnit := do
  oldWait c s
  let v ← ldP m (op s)
  let _ ← ldR (ovM (par s))
  stO (par s) (wide v)
  outGo c (par s) (oq s) (op s)

/-- Eight pieces in order. -/
def seq8 (f : Fin 8 → Act F PUnit) : Act F PUnit := do
  f 0; f 1; f 2; f 3; f 4; f 5; f 6; f 7

/-- The barrier: a signal to each of the three devices the kernel sends to, and a wait for theirs. -/
def barrier (c : Dev nD) : Act F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32

/-- Piece `p` in: rounded into the quarter's buffer and sent across z, the next piece's in-copy under way. -/
def step1 (c : Dev nD) (p : Fin 8) : Act F PUnit := do
  inWait c p
  if p.val < 7 then inGo c (p + 1) else pure ⟨⟩
  let v ← ldR (xvM (par p.val))
  let _ ← ldP sqM p
  stP p (rnd v)
  send c .z p

/-- Piece `p` summed with what came across z, sent across x and y, and out. -/
def step2 (c : Dev nD) (p : Fin 8) : Act F PUnit := do
  sWait .z p
  rWait .z p
  oldWait c p.val
  let v ← ldP sqM p
  let w ← ldP rzM p
  let _ ← ldR (ovM (par p.val))
  stO (par p.val) (add2 v w)
  let u ← ldR (ovM (par p.val))
  let _ ← ldP sqM p
  stP p (rnd u)
  send c .x1 p
  send c .y1 p
  outGo c (par p.val) .own p

/-- Piece `p` of the quarters across y and across x: passed on across the other axis (one of the two), and out. -/
def step3 (c : Dev nD) (p : Fin 8) : Act F PUnit := do
  rWait .y1 p
  if p.val % 2 = 0 then send c .x2 p else pure ⟨⟩
  copyOut c (8 + 2 * p.val) ryM
  rWait .x1 p
  if p.val % 2 = 1 then send c .y2 p else pure ⟨⟩
  copyOut c (9 + 2 * p.val) rxM

/-- Piece `p` of the quarter across both, out. -/
def step4 (c : Dev nD) (p : Fin 8) : Act F PUnit := do
  rWait (r2 p) p
  copyOut c (24 + p.val) rdM

/-- The sends' sources and the last two out-copies waited for. -/
def finish (c : Dev nD) : Act F PUnit := do
  seq8 (sWait .x1)
  seq8 (sWait .y1)
  seq8 (fun p => sWait (r2 p) p)
  outWait c 0 .d 6
  outWait c 1 .d 7

/-- The body on device `c`. -/
def bodyOn (c : Dev nD) : Act F PUnit := do
  barrier c
  inGo c 0
  seq8 (step1 c)
  seq8 (step2 c)
  seq8 (step3 c)
  seq8 (step4 c)
  finish c

end Cert.KernelIdeal.Own

end
-- ==== Proof.KI.Proto.lean ====
/- The protocol between the devices: the mesh, the semaphores' cells, the values each transfer carries, the schedule of
   every cell, and what each device owes at launch with the levels that order the waits.

   Every device has 81 shared cells: the barrier's, and for each channel and piece a send cell (credited on the sender
   when its source is read) and a receive cell (credited on the receiver when the piece has landed). The barrier cell has
   three duties of one unit, one for each neighbour; a neighbour pays it with the landing pieces that this device's sends
   will write there. A send cell has one duty, which hands the source's share back; a receive cell one, which hands the
   landed piece at its contents. The second round's channels carry half the pieces each (`act`); the cells of
   the other pieces have no duty. -/
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

/-- The device across an axis: 0 is z, 1 is x, 2 is y. -/
def nb : Fin 3 → Dev nD → Dev nD
  | 0, c => ⟨k0_dev1 c, k0_dev1_lt c⟩
  | 1, c => ⟨k0_dev2 c, k0_dev2_lt c⟩
  | 2, c => ⟨k0_dev3 c, k0_dev3_lt c⟩

abbrev zp (c : Dev nD) : Dev nD := nb 0 c
abbrev xn (c : Dev nD) : Dev nD := nb 1 c
abbrev yn (c : Dev nD) : Dev nD := nb 2 c

/-- Crossing an axis twice comes back. -/
theorem nb_nb : ∀ (d : Fin 3) (c : Dev nD), nb d (nb d c) = c := by decide +kernel
/-- Crossings of two axes commute. -/
theorem nb_comm : ∀ (d e : Fin 3) (c : Dev nD), nb d (nb e c) = nb e (nb d c) := by decide +kernel

/-- Crossing an axis permutes the devices. -/
def nbE (d : Fin 3) : Dev nD ≃ Dev nD := ⟨nb d, nb d, nb_nb d, nb_nb d⟩

/-- The axis a channel crosses. -/
def ax : Ch → Fin 3
  | .z => 0 | .x1 => 1 | .x2 => 1 | .y1 => 2 | .y2 => 2

/-- The device a channel sends to, and the one it receives from. -/
abbrev peer (ch : Ch) (c : Dev nD) : Dev nD := nb (ax ch) c

theorem peer_peer (ch : Ch) (c : Dev nD) : peer ch (peer ch c) = c := nb_nb _ c

/-- The device a send addresses is the channel's peer. -/
theorem dv_eq : ∀ (c : Dev nD) (ch : Ch) (p : Fin 8), dv c ch p = peer ch c := by decide +kernel

/-! ## The resource algebra -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := (Emb.inl : Emb UX (UX × Counters)).trans embR
abbrev EC : UEmb Counters (MT nD τ sig Unit (Elt F) ℕ UU ℕ) := countersEmb

/-! ## Separating conjunctions over three and over eight -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Cells -/

/-- A device's shared cells: the barrier's (`none`), a channel's and piece's send cell (`false`) and receive cell (`true`). -/
abbrev CI : Type := Option (Ch × Fin 8 × Bool)

abbrev csem : CI → SemLoc sig
  | none => .reg barS
  | some (ch, p, false) => .dma (sSem ch p)
  | some (ch, p, true) => .dma (rSem ch p)

theorem csem_inj : Function.Injective csem := by
  have h : ∀ a b : CI, csem a = csem b → a = b := by decide +kernel
  exact fun a b => h a b

abbrev kcell (ck : Dev nD × CI) : GSem nD τ sig := (ck.1.tc, csem ck.2)

abbrev barCell (c : Dev nD) : GSem nD τ sig := kcell (c, none)
abbrev sCell (c : Dev nD) (ch : Ch) (p : Fin 8) : GSem nD τ sig := kcell (c, some (ch, p, false))
abbrev rCell (c : Dev nD) (ch : Ch) (p : Fin 8) : GSem nD τ sig := kcell (c, some (ch, p, true))

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which shared cell a semaphore is, if any. -/
def idx (s : SemLoc sig) : Option CI := Function.partialInv csem s
theorem idx_csem (i : CI) : idx (csem i) = some i := Function.partialInv_left csem_inj i

/-- The pieces a channel carries: the second round's across x the even ones, across y the odd. -/
def act : Ch → Fin 8 → Bool
  | .x2, p => p.val % 2 == 0
  | .y2, p => p.val % 2 == 1
  | _, _ => true

/-- The credit of one transferred piece. -/
abbrev N : ℕ := (pc sqM 0).view.dmaCredit
theorem N_pos : 0 < N := View.dmaCredit_pos _ (by decide)

theorem credit_dst : ∀ (ch : Ch) (p : Fin 8), (pc (dstM ch) p).view.dmaCredit = N
  | .z, _ => rfl | .x1, _ => rfl | .y1, _ => rfl | .x2, _ => rfl | .y2, _ => rfl
theorem credit_src : ∀ (ch : Ch) (p : Fin 8), (pc (srcM ch) p).view.dmaCredit = N
  | .z, _ => rfl | .x1, _ => rfl | .y1, _ => rfl | .x2, _ => rfl | .y2, _ => rfl

/-! ## Contents -/

section Contents

variable (m : (ℓ : Loc nD τ sig) → Buf (Elt F) ℓ)

/-- Piece `p` of the device's own quarter of its input. -/
def xv (c : Dev nD) (p : Fin 8) : Vec F S512x1024 .f32 := (hp xM c .own p).view.read (Elt F) (m (c.tc.loc main_arg0))
/-- What is sent across z. -/
def v0 (c : Dev nD) (p : Fin 8) : FVec F S512x1024 .bf16 := rnd (xv m c p)
/-- The sum over z, in the result's type. -/
def sm (c : Dev nD) (p : Fin 8) : FVec F S512x1024 .f32 := add2 (v0 m c p) (v0 m (zp c) p)
/-- The sum over z, as it is sent across x and y. -/
def v1 (c : Dev nD) (p : Fin 8) : FVec F S512x1024 .bf16 := rnd (sm m c p)

/-- What device `c` sends on a channel. -/
def srcV (ch : Ch) (c : Dev nD) (p : Fin 8) : FVec F S512x1024 .bf16 :=
  match ch with
  | .z => v0 m c p
  | .x1 => v1 m c p
  | .y1 => v1 m c p
  | .x2 => v1 m (yn c) p
  | .y2 => v1 m (xn c) p

/-- What lands on device `c` on a channel. -/
def dstV (ch : Ch) (c : Dev nD) (p : Fin 8) : FVec F S512x1024 .bf16 := srcV m ch (peer ch c) p

theorem dstV_z (c : Dev nD) (p : Fin 8) : dstV m .z c p = v0 m (zp c) p := rfl
theorem dstV_x1 (c : Dev nD) (p : Fin 8) : dstV m .x1 c p = v1 m (xn c) p := rfl
theorem dstV_y1 (c : Dev nD) (p : Fin 8) : dstV m .y1 c p = v1 m (yn c) p := rfl
theorem dstV_x2 (c : Dev nD) (p : Fin 8) : dstV m .x2 c p = v1 m (yn (xn c)) p := rfl
theorem dstV_y2 (c : Dev nD) (p : Fin 8) : dstV m .y2 c p = v1 m (yn (xn c)) p :=
  congrArg (fun d => v1 m d p) (nb_comm 1 2 c)

/-- What the out-copies write into piece `p` of a quarter of device `c`'s result. -/
def outV (c : Dev nD) (q : Qt) (p : Fin 8) : FVec F S512x1024 .f32 :=
  match q with
  | .own => sm m c p
  | .y => wide (v1 m (yn c) p)
  | .x => wide (v1 m (xn c) p)
  | .d => wide (v1 m (yn (xn c)) p)

end Contents

/-- The share of its source that a send holds until the source is read. -/
def shr : Ch → PosShare TreeShare
  | .z => fullShare | .x1 => fullShare.left | .y1 => fullShare.right | .x2 => fullShare.left | .y2 => fullShare.left

/-- A landing piece at some contents. -/
def landing (ch : Ch) (p : Fin 8) (n : Dev nD) : sProp 𝕄 := iprop(∃ Y, ownsTc n (pc (dstM ch) p) fullShare Y)

/-- The pieces carried across axis `d`. -/
def chs (d : Fin 3) : Finset (Ch × Fin 8) := Finset.univ.filter fun i => ax i.1 = d ∧ act i.1 i.2 = true

/-- What the neighbour across axis `d` pays device `c`'s barrier duty with: its landing pieces of the channels across `d`. -/
def barPay (c : Dev nD) (d : Fin 3) : sProp 𝕄 := bigSep (chs d) fun i => landing (F := F) i.1 i.2 (nb d c)

/-! ## The schedule -/

section Sched

variable (m : (ℓ : Loc nD τ sig) → Buf (Elt F) ℓ)

/-- A send's source given back. -/
def sendPay (ch : Ch) (p : Fin 8) (c : Dev nD) : sProp 𝕄 := ownsTc c (pc (srcM ch) p) (shr ch) (srcV m ch c p)
/-- A piece landed. -/
def recvPay (ch : Ch) (p : Fin 8) (c : Dev nD) : sProp 𝕄 := ownsTc c (pc (dstM ch) p) fullShare (dstV m ch c p)

/-- The duties of a shared cell, in its one round. -/
def dutI : CI → Finset (Fin 3)
  | none => Finset.univ
  | some (ch, p, _) => if act ch p then {0} else ∅
/-- What a duty of a shared cell pays. -/
def payI (c : Dev nD) (d : Fin 3) : CI → sProp 𝕄
  | none => barPay c d
  | some (ch, p, false) => sendPay m ch p c
  | some (ch, p, true) => recvPay m ch p c
/-- How much. -/
def amtI : CI → ℕ
  | none => 1
  | some _ => N

theorem amtI_pos : ∀ i, 0 < amtI i
  | none => Nat.one_pos
  | some _ => N_pos

def Rd : Rounds.Schedule (GSem nD τ sig) (Fin 3) 𝕄 where
  duties g r := if r = 0 ∧ g.1.2 = .tc then (idx g.2).elim ∅ dutI else ∅
  unitless _ := False
  amount g _ _ := (idx g.2).elim 1 amtI
  payload g _ d := (idx g.2).elim iprop(emp) (payI m g.1.1 d)
  amount_pos g _ _ _ := by cases idx g.2 with | none => exact Nat.one_pos | some i => exact amtI_pos i

instance payI_storable (c : Dev nD) (d : Fin 3) (i : CI) : BI.Storable (upEmb : UEmb _ 𝕄) (payI (F := F) m c d i) := by
  rcases i with _ | ⟨ch, p, _ | _⟩
  · show BI.Storable upEmb (barPay c d); unfold barPay landing; infer_instance
  · show BI.Storable upEmb (sendPay m ch p c); unfold sendPay; infer_instance
  · show BI.Storable upEmb (recvPay m ch p c); unfold recvPay; infer_instance

instance Rd_storable (g : GSem nD τ sig) (r : ℕ) (d : Fin 3) : BI.Storable (upEmb : UEmb _ 𝕄) ((Rd (F := F) m).payload g r d) := by
  show BI.Storable upEmb ((idx g.2).elim iprop(emp) (payI m g.1.1 d))
  cases idx g.2 with
  | none => show BI.Storable upEmb iprop(emp); infer_instance
  | some i => exact payI_storable m _ d i

theorem Rd_duties (c : Dev nD) (i : CI) : (Rd (F := F) m).duties (kcell (c, i)) 0 = dutI i := by
  dsimp only [Rd]
  rw [if_pos ⟨rfl, rfl⟩, idx_csem]; rfl
theorem Rd_amount (c : Dev nD) (i : CI) (d : Fin 3) : (Rd (F := F) m).amount (kcell (c, i)) 0 d = amtI i := by
  show (idx (csem i)).elim 1 amtI = _
  rw [idx_csem]; rfl
theorem Rd_payload (c : Dev nD) (i : CI) (d : Fin 3) : (Rd (F := F) m).payload (kcell (c, i)) 0 d = payI m c d i := by
  show (idx (csem i)).elim iprop(emp) (payI m c d) = _
  rw [idx_csem]; rfl
theorem Rd_later (g : GSem nD τ sig) : ∀ r, 1 ≤ r → (Rd (F := F) m).duties g r = ∅ :=
  fun r hr => if_neg fun h => by omega
/-- A cell that no transfer uses has no duty in any round. -/
theorem Rd_idle (c : Dev nD) (ch : Ch) (p : Fin 8) (b : Bool) (h : act ch p = false) :
    ∀ r, 0 ≤ r → (Rd (F := F) m).duties (kcell (c, some (ch, p, b))) r = ∅ := by
  intro r _
  rcases Nat.eq_zero_or_pos r with rfl | hr
  · rw [Rd_duties]; show (if act ch p then _ else _) = _; rw [h]; rfl
  · exact Rd_later m _ r hr

theorem dutI_act (ch : Ch) (p : Fin 8) (b : Bool) (h : act ch p = true) : dutI (some (ch, p, b)) = {0} := by
  show (if act ch p then _ else _) = _; rw [h]; rfl

theorem expect_act (c : Dev nD) (ch : Ch) (p : Fin 8) (b : Bool) (h : act ch p = true) :
    (Rd (F := F) m).expect (kcell (c, some (ch, p, b))) 0 = N := by
  unfold Schedule.expect Schedule.amountOf
  rw [Rd_duties, dutI_act _ _ _ h, Finset.sum_singleton, Rd_amount]; rfl
theorem expect_bar (c : Dev nD) : (Rd (F := F) m).expect (barCell c) 0 = 3 := by
  unfold Schedule.expect Schedule.amountOf
  rw [Rd_duties, Finset.sum_congr rfl fun d _ => Rd_amount m c none d]; rfl

theorem rest_act (c : Dev nD) (ch : Ch) (p : Fin 8) (b : Bool) (h : act ch p = true) :
    bigSep ((Rd (F := F) m).duties (kcell (c, some (ch, p, b))) 0 \ ∅) (fun d => (Rd m).payload (kcell (c, some (ch, p, b))) 0 d)
      = payI m c 0 (some (ch, p, b)) := by
  rw [Finset.sdiff_empty, Rd_duties, dutI_act _ _ _ h, bigSep_singleton, Rd_payload]
theorem rest_bar (c : Dev nD) :
    bigSep ((Rd (F := F) m).duties (barCell c) 0 \ ∅) (fun d => (Rd m).payload (barCell c) 0 d)
      = bigSep Finset.univ fun d => barPay c d := by
  rw [Finset.sdiff_empty, Rd_duties]
  exact bigSep_congr fun d _ => Rd_payload m c none d

end Sched

/-! ## What each device owes, and the levels -/

/-- The round a channel's landings are waited for in. -/
def rk : Ch → ℕ
  | .z => 1 | .x1 => 2 | .y1 => 2 | .x2 => 3 | .y2 => 3

/-- The sends still to come when those of the rounds before `ph` and the first `n` pieces of round `ph` are done. -/
def todo (ph n : ℕ) : Finset (Ch × Fin 8) :=
  Finset.univ.filter fun i => act i.1 i.2 = true ∧ (ph < rk i.1 ∨ (rk i.1 = ph ∧ n ≤ i.2.val))

/-- What a device owes the receive cells of the sends `S`. -/
def owed (S : Finset (Ch × Fin 8)) (c : Dev nD) : CellTallies nD τ sig Unit :=
  ∑ i ∈ S, tallyAt (rCell (peer i.1 c) i.1 i.2) () N

/-- What it owes the barrier cells of its neighbours, those of the axes below `n` paid. -/
def owedBar (n : ℕ) (c : Dev nD) : CellTallies nD τ sig Unit :=
  ∑ d ∈ Finset.univ.filter (fun d : Fin 3 => n ≤ d.val), tallyAt (barCell (nb d c)) () 1

def O₀ (c : Dev nD) : CellTallies nD τ sig Unit := owed (todo 1 0) c + owedBar 0 c

theorem owed_insert {S : Finset (Ch × Fin 8)} {i : Ch × Fin 8} (hi : i ∉ S) (c : Dev nD) :
    owed (insert i S) c = owed S c + tallyAt (rCell (peer i.1 c) i.1 i.2) () N := by
  unfold owed; rw [Finset.sum_insert hi, add_comm]

theorem owedBar_step (d : Fin 3) (c : Dev nD) : owedBar d.val c = owedBar (d.val + 1) c + tallyAt (barCell (nb d c)) () 1 := by
  unfold owedBar
  rw [show (Finset.univ.filter fun e : Fin 3 => d.val ≤ e.val) = insert d (Finset.univ.filter fun e : Fin 3 => d.val + 1 ≤ e.val) from by
      revert d; decide,
    Finset.sum_insert (by rw [Finset.mem_filter]; omega), add_comm]
theorem owedBar_end (c : Dev nD) : owedBar 3 c = 0 := by
  unfold owedBar; rw [show (Finset.univ.filter fun e : Fin 3 => 3 ≤ e.val) = ∅ from by decide, Finset.sum_empty]

def L (g : GSem nD τ sig) : Finset Unit := if g.1.2 = .tc then {()} else ∅
/-- The level of a shared cell: a barrier's 1, a landing's one above its round, a send's 0. -/
def lvI : CI → ℕ
  | none => 1
  | some (ch, _, true) => rk ch + 1
  | some (_, _, false) => 0
def lv (g : GSem nD τ sig) (_ : Unit) : ℕ := (idx g.2).elim 0 lvI

theorem L_of_ne (g : GSem nD τ sig) (h : g.1.2 ≠ .tc) : L g = ∅ := if_neg h
theorem L_tc (c : Dev nD) (s : SemLoc sig) : L (c.tc, s) = {()} := if_pos rfl
theorem lv_kcell (ck : Dev nD × CI) : lv (kcell ck) () = lvI ck.2 := by
  show (idx (csem ck.2)).elim 0 lvI = _; rw [idx_csem]; rfl
theorem lv_other (c : Dev nD) (s : SemLoc sig) (h : ∀ i, csem i ≠ s) : lv (c.tc, s) () = 0 := by
  show (idx s).elim 0 lvI = 0
  have h0 : idx s = none := by
    unfold idx Function.partialInv
    exact dif_neg fun ⟨i, hi⟩ => h i hi
  rw [h0]; rfl

theorem owed_pos {S : Finset (Ch × Fin 8)} {c : Dev nD} {g : GSem nD τ sig} {u : Unit} (h : 0 < owed S c g u) :
    ∃ i ∈ S, g = rCell (peer i.1 c) i.1 i.2 := by
  unfold owed at h
  by_contra hn
  push Not at hn
  rw [Finset.sum_apply, Finsupp.finset_sum_apply, Finset.sum_eq_zero] at h
  · exact Nat.lt_irrefl 0 h
  · intro i hi
    rw [tallyAt_apply, if_neg fun h' => hn i hi h'.1]
theorem owedBar_pos {n : ℕ} {c : Dev nD} {g : GSem nD τ sig} {u : Unit} (h : 0 < owedBar n c g u) :
    ∃ d : Fin 3, g = barCell (nb d c) := by
  unfold owedBar at h
  by_contra hn
  push Not at hn
  rw [Finset.sum_apply, Finsupp.finset_sum_apply, Finset.sum_eq_zero] at h
  · exact Nat.lt_irrefl 0 h
  · intro i hi
    rw [tallyAt_apply, if_neg fun h' => hn i h'.1]

/-- A device may wait on a cell below the landings it still owes. -/
theorem mayWait (c : Dev nD) (s : SemLoc sig) (S : Finset (Ch × Fin 8)) (ℓ : ℕ) (hs : lv (c.tc, s) () ≤ ℓ)
    (hS : ∀ i ∈ S, ℓ < rk i.1 + 1) : (levAts L lv : sProp 𝕄) ⊢ MayWait c.tc s () (owed S c) :=
  MayOwe.of_cut (L := L) (lev := lv) ℓ (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact hs)
    (fun g u hg => by obtain ⟨i, hi, rfl⟩ := owed_pos hg; rw [lv_kcell]; exact hS i hi)

/-- At launch it may wait on any cell that is not shared. -/
theorem mayWait_start (c : Dev nD) (s : SemLoc sig) (hs : lv (c.tc, s) () = 0) :
    (levAts L lv : sProp 𝕄) ⊢ MayWait c.tc s () (O₀ c) := by
  have hpos : ∀ (g : GSem nD τ sig) (u : Unit), 0 < O₀ c g u → () ∈ L g ∧ 0 < lv g u := by
    intro g u hg
    unfold O₀ at hg
    rw [Pi.add_apply, Finsupp.add_apply] at hg
    rcases Nat.eq_zero_or_pos (owed (todo 1 0) c g u) with h0 | h0
    · rw [h0, Nat.zero_add] at hg
      obtain ⟨d, rfl⟩ := owedBar_pos hg
      exact ⟨Finset.mem_singleton_self _, by rw [lv_kcell]; exact Nat.one_pos⟩
    · obtain ⟨i, -, rfl⟩ := owed_pos h0
      exact ⟨Finset.mem_singleton_self _, by rw [lv_kcell]; exact Nat.succ_pos _⟩
  exact MayOwe.of_cut (L := L) (lev := lv) 0 (fun p hp => by rw [Finset.mem_singleton.mp hp, L_tc]; exact Finset.mem_singleton_self _)
    (fun g u hg => (hpos g u hg).1)
    (fun p hp => by rw [Finset.mem_singleton.mp hp]; exact hs.le)
    (fun g u hg => (hpos g u hg).2)

end Cert.KernelIdeal.Own

end
-- ==== Proof.KI.Rules.lean ====
/- What each operation of the program does to what the device holds: one lemma per operation, at a symbolic piece, each in
   the form "what it needs, and from what it leaves the continuation". -/
module

public import proofs.«01_k».proof.Proof.KI.Proto

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- The weakest precondition of a program on device `c`. -/
abbrev Wp (c : Dev nD) {α : Type} (p : Act F α) (Q : α → sProp 𝕄) : sProp 𝕄 :=
  wp frame (wpE (defs₀ (F := F)) 𝒱₀ (c.tc : Thread nD τ) none) Set.univ p Q

theorem Wp_bind (c : Dev nD) {α β : Type} (p : Act F α) (k : α → Act F β) (Q : β → sProp 𝕄) :
    Wp c (p >>= k) Q = Wp c p (fun a => Wp c (k a) Q) := wp_bind _ _ _ _ _ _

theorem Wp_pure (c : Dev nD) {α : Type} (a : α) (Q : α → sProp 𝕄) : Q a ⊢ Wp c (pure a) Q := by
  show Q a ⊢ wp frame _ _ (.ret a) Q
  rw [wp_ret]; exact fupd_intro

/-! ## Loads and stores -/

/-- A piece owned, spelt with the elements that a load or store of the piece accesses. -/
theorem owns_pc (c : Dev nD) (M : Big) (p : Fin 8) (q : PosShare TreeShare) (X : Vec F S512x1024 .bf16) :
    (ownsTc c (pc M p) q X : sProp 𝕄) = iprop(∃ f : Buf (Elt F) ((M.access (pieceR p)).loc (c.tc : Thread nD τ)),
      ⌜(M.access (pieceR p)).read (Elt F) f = X⌝ ∗ ((M.access (pieceR p)).loc (c.tc : Thread nD τ) ↦[(M.access (pieceR p)).set]{q} f)) := rfl

/-- A load of a piece reads its contents. -/
theorem wp_ldP (c : Dev nD) (M : Big) (p : Fin 8) (q : PosShare TreeShare) (X : Vec F S512x1024 .bf16) (Q : Vec F S512x1024 .bf16 → sProp 𝕄) :
    iprop(ownsTc c (pc M p) q X ∗ (ownsTc c (pc M p) q X -∗ Q X)) ⊢ Wp c (ldP M p) Q := by
  unfold ldP
  simp only [Prog.lift]
  rw [owns_pc]
  iintro ⟨H, Hk⟩
  icases H with ⟨%f, %hf, H⟩
  iapply (wp_load_rect 𝒱₀ (c.tc : Thread nD τ) none Set.univ (m := M) (r := pieceR p) (S := (M.access (pieceR p)).set) (Finset.Subset.refl _)) $$ H
  iintro H
  rw [wp_ret]; imodintro
  rw [hf]
  iapply Hk
  iexists f
  isplitr; · ipureintro; exact hf
  iexact H

theorem off_zero : (![0, 0] : Fin 2 → Nat) = fun _ => 0 := funext fun a => by fin_cases a <;> rfl

theorem xvM_load : ∀ (b : Fin 2) (f : (xvM b).view.ty.Contents (Elt F)), (xvM b).view.readAt (Elt F) rowR.toLoadRect f = (xvM b).view.read (Elt F) f
  | 0, f => Memref.readAt_unit_zero (Elt F) cc0_scratch5 off_zero _ f
  | 1, f => Memref.readAt_unit_zero (Elt F) cc0_scratch6 off_zero _ f
theorem ovM_load : ∀ (b : Fin 2) (f : (ovM b).view.ty.Contents (Elt F)), (ovM b).view.readAt (Elt F) rowR.toLoadRect f = (ovM b).view.read (Elt F) f
  | 0, f => Memref.readAt_unit_zero (Elt F) cc0_scratch7 off_zero _ f
  | 1, f => Memref.readAt_unit_zero (Elt F) cc0_scratch8 off_zero _ f
theorem ovM_store : ∀ (b : Fin 2) (f : (ovM b).view.ty.Contents (Elt F)) (w : FVec F S512x1024 .f32),
    (ovM b).view.read (Elt F) (((ovM b).access rowR).write (Elt F) f w Finset.univ) = w
  | 0, f, w => (View.read_whole _ _).trans (Memref.write_access_unit_zero_univ (Elt F) cc0_scratch7 off_zero _ f w)
  | 1, f, w => (View.read_whole _ _).trans (Memref.write_access_unit_zero_univ (Elt F) cc0_scratch8 off_zero _ f w)

/-- A load of a whole slot reads its contents. -/
theorem wp_ldR (c : Dev nD) (M : Row) (hM : ∀ f : M.view.ty.Contents (Elt F), M.view.readAt (Elt F) rowR.toLoadRect f = M.view.read (Elt F) f) (q : PosShare TreeShare) (X : Vec F S512x1024 .f32) (Q : Vec F S512x1024 .f32 → sProp 𝕄) :
    iprop(ownsTc c M q X ∗ (ownsTc c M q X -∗ Q X)) ⊢ Wp c (ldR M) Q := by
  unfold ldR
  simp only [Prog.lift]
  iintro ⟨H, Hk⟩
  unfold ownsTc owns
  icases H with ⟨%f, %hf, H⟩
  iapply (wp_load 𝒱₀ (c.tc : Thread nD τ) none Set.univ (m := M) (r := rowR.toLoadRect) (S := M.view.set) (View.setOn_subset_set _ _)) $$ H
  iintro H
  rw [wp_ret]; imodintro
  rw [hM f, hf]
  iapply Hk
  iexists f
  isplitr; · ipureintro; exact hf
  iexact H

/-- A store of a piece leaves it at the stored value. -/
theorem wp_stP (c : Dev nD) (p : Fin 8) (v : FVec F S512x1024 .bf16) (X : Vec F S512x1024 .bf16) (Q : PUnit → sProp 𝕄) :
    iprop(ownsTc c (pc sqM p) fullShare X ∗ (ownsTc c (pc sqM p) fullShare v -∗ Q ⟨⟩)) ⊢ Wp c (stP p v) Q := by
  unfold stP
  simp only [Prog.lift]
  rw [owns_pc, owns_pc]
  iintro ⟨H, Hk⟩
  icases H with ⟨%f, %hf, H⟩
  iapply (wp_store 𝒱₀ (c.tc : Thread nD τ) none Set.univ (m := sqM) (r := pieceR p) (Mk := Finset.univ) (S := (sqM.access (pieceR p)).set) (View.setOn_subset_set _ _)) $$ H
  iintro H
  rw [wp_ret]; imodintro
  iapply Hk
  iexists _
  isplitr [H]
  rotate_left; · iexact H
  ipureintro
  exact View.read_write_univ _ _

/-- A store of a slot leaves it at the stored value. -/
theorem wp_stO (c : Dev nD) (b : Fin 2) (v : FVec F S512x1024 .f32) (X : Vec F S512x1024 .f32) (Q : PUnit → sProp 𝕄) :
    iprop(ownsTc c (ovM b) fullShare X ∗ (ownsTc c (ovM b) fullShare v -∗ Q ⟨⟩)) ⊢ Wp c (stO b v) Q := by
  unfold stO
  simp only [Prog.lift]
  iintro ⟨H, Hk⟩
  unfold ownsTc owns
  icases H with ⟨%f, %hf, H⟩
  iapply (wp_store 𝒱₀ (c.tc : Thread nD τ) none Set.univ (m := ovM b) (r := rowR) (Mk := Finset.univ) (S := (ovM b).view.set) (by rw [(ovM_whole b).set_eq_univ]; exact Finset.subset_univ _)) $$ H
  iintro H
  rw [wp_ret]; imodintro
  iapply Hk
  iexists _
  isplitr [H]
  rotate_left; · iexact H
  ipureintro
  exact ovM_store b f v

end Cert.KernelIdeal.Own

end
-- ==== Proof.KI.Rules2.lean ====
/- What a send, the wait for its source and the wait for a landing do to what the device holds, at a symbolic channel and
   piece; and the barrier. -/
module

public import proofs.«01_k».proof.Proof.KI.Rules

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-- What every device knows throughout: the invariant of every shared cell, that every cell is at round 0 or later, the levels. -/
def ctx : sProp 𝕄 :=
  iprop((bigSep Finset.univ fun ck : Dev nD × CI => cellInv ER (Rd (F := F) m) (K ck) (kcell ck))
    ∗ (bigSep Finset.univ fun ck : Dev nD × CI => reached ER (kcell ck) 0) ∗ levAts L lv)

instance ctx_persistent : BI.Persistent (ctx (F := F) m K) := by unfold ctx; infer_instance

theorem ctx_inv (ck : Dev nD × CI) : ctx m K ⊢ cellInv ER (Rd (F := F) m) (K ck) (kcell ck) :=
  sep_elim_left.trans (bigSep_elim (Φ := fun ck : Dev nD × CI => cellInv ER (Rd (F := F) m) (K ck) (kcell ck)) (Finset.mem_univ ck))
theorem ctx_reached (ck : Dev nD × CI) : ctx (F := F) m K ⊢ reached ER (kcell ck) 0 :=
  sep_elim_right.trans (sep_elim_left.trans (bigSep_elim (Φ := fun ck : Dev nD × CI => (reached ER (kcell ck) 0 : sProp 𝕄)) (Finset.mem_univ ck)))
theorem ctx_lev : ctx (F := F) m K ⊢ levAts L lv := by
  unfold ctx; iintro ⟨-, -, H⟩; iexact H

/-- The device owes the landings of the sends `S`, and nothing else. -/
def ow (c : Dev nD) (S : Finset (Ch × Fin 8)) : sProp 𝕄 := iprop(∃ W, owes (c.tc : Thread nD τ) (owed S c) W)

/-- What a send needs besides its source: the two duties it pays, the landing piece, and the send cell's position. -/
def kit (ch : Ch) (p : Fin 8) (c : Dev nD) : sProp 𝕄 :=
  iprop(dutyTok ER (sCell c ch p) 0 0 ∗ dutyTok ER (rCell (peer ch c) ch p) 0 0 ∗ landing (F := F) ch p (peer ch c) ∗ atPos ER (sCell c ch p) 0 ∅ 0)
/-- What it leaves until its source is waited for. -/
def sent (ch : Ch) (p : Fin 8) (c : Dev nD) : sProp 𝕄 :=
  iprop(atPos ER (sCell c ch p) 0 ∅ 0 ∗ cred (tallyAt (sCell c ch p) () N))
/-- What a wait for a landing needs. -/
def toRecv (ch : Ch) (p : Fin 8) (c : Dev nD) : sProp 𝕄 :=
  iprop(atPos ER (rCell c ch p) 0 ∅ 0 ∗ cred (tallyAt (rCell c ch p) () N))

/-- A send to the channel's peer, however the device is spelt. -/
theorem wp_send_to (c n : Dev nD) (ch : Ch) (p : Fin 8) (hn : n = peer ch c) (h : act ch p = true) (S : Finset (Ch × Fin 8)) (hi : (ch, p) ∉ S)
    {hsc : (pc (dstM ch) p : Memref sig (Dev.tc n : Thread nD τ).2.kind .vmem S512x1024 .bf16).view.ref.isScScratch = false}
    {hsrc : (pc (srcM ch) p).view.WordExact} {hdst : (pc (dstM ch) p).view.WordExact}
    {hsem : DmaTarget.Typed .vmem (.dma (rSem ch p)) (.remote (Dev.tc n : Thread nD τ) (pc (dstM ch) p) (.dma (sSem ch p)) hsc)}
    (Q : PUnit → sProp 𝕄) :
    iprop(ctx m K ∗ kit ch p c ∗ sendPay m ch p c ∗ ow c (insert (ch, p) S) ∗ (sent ch p c -∗ ow c S -∗ Q ⟨⟩))
      ⊢ Wp c (.op (.enqueueDma (pc (srcM ch) p) (.remote (Dev.tc n : Thread nD τ) (pc (dstM ch) p) (.dma (sSem ch p)) hsc) (.dma (rSem ch p)) hsrc hdst hsem) .ret) Q := by
  subst hn
  unfold kit landing sendPay ow
  iintro ⟨#Hctx, ⟨Ht1, Ht2, ⟨%Y, Hl⟩, Hat⟩, Hs, ⟨%W, HO⟩, Hk⟩
  ihave #HI1 := (ctx_inv m K (c, some (ch, p, false))) $$ Hctx
  ihave #HI2 := (ctx_inv m K (peer ch c, some (ch, p, true))) $$ Hctx
  ihave #HR1 := (ctx_reached m K (c, some (ch, p, false))) $$ Hctx
  ihave #HR2 := (ctx_reached m K (peer ch c, some (ch, p, true))) $$ Hctx
  unfold ownsTc owns
  icases Hl with ⟨%fd, %hfd, Hl⟩
  icases Hs with ⟨%fs, %hfs, Hs⟩
  iapply (Rounds.wp_send_pointsTo 𝒱₀ ER (Rd m) (c.tc : Thread nD τ) none (κ₁ := K (c, some (ch, p, false))) (κ₂ := K (peer ch c, some (ch, p, true)))
    (r₁ := 0) (r₂ := 0) (d₁ := 0) (d₂ := 0) (q := shr ch) (fs := fs) (fd := fd)
    (by rw [show ((c.tc : Thread nD τ), SemLoc.dma (sSem ch p)) = kcell (c, some (ch, p, false)) from rfl, Rd_duties, dutI_act _ _ _ h]
        exact Finset.mem_singleton_self _)
    (by rw [show ((Dev.tc (peer ch c) : Thread nD τ), SemLoc.dma (rSem ch p)) = kcell (peer ch c, some (ch, p, true)) from rfl, Rd_duties, dutI_act _ _ _ h]
        exact Finset.mem_singleton_self _)
    () () N (show (pc (dstM ch) p).view.amount (SemLoc.dma (rSem ch p)) = N from credit_dst ch p) (Rd_amount m c (some (ch, p, false)) 0) (Rd_amount m (peer ch c) (some (ch, p, true)) 0)
    (owed S c) (owed_insert hi c) (W := W)
    (by
      rw [show ((c.tc : Thread nD τ), SemLoc.dma (sSem ch p)) = kcell (c, some (ch, p, false)) from rfl, Rd_payload]
      show _ ⊢ sendPay m ch p c
      unfold sendPay
      rw [← hfs]
      exact owns_intro (c.tc : Thread nD τ) (pc (srcM ch) p) (shr ch) fs)
    (by
      rw [show ((Dev.tc (peer ch c) : Thread nD τ), SemLoc.dma (rSem ch p)) = kcell (peer ch c, some (ch, p, true)) from rfl, Rd_payload]
      show _ ⊢ recvPay m ch p (peer ch c)
      unfold recvPay dstV
      rw [peer_peer, ← hfs]
      refine (owns_intro (Dev.tc (peer ch c) : Thread nD τ) (pc (dstM ch) p) fullShare _).trans ?_
      rw [View.read_write_univ])) $$ [Hs Hl HO Ht1 Ht2]
  · isplitr; · iexact HI1
    isplitr; · iexact HI2
    isplitl [Hs]; · iexact Hs
    isplitl [Hl]; · iexact Hl
    isplitl [HO]; · iexact HO
    isplitl [Ht1]; · iexact Ht1
    isplitr; · iexact HR1
    isplitl [Ht2]; · iexact Ht2
    iexact HR2
  iintro ⟨Hc, HO⟩
  rw [wp_ret]; imodintro
  iapply Hk $$ [Hat Hc]
  · unfold sent; isplitl [Hat] <;> iassumption
  · iexists W; iexact HO

/-- A send gives the source's share and the landing piece away. -/
theorem wp_sendCh (c : Dev nD) (ch : Ch) (p : Fin 8) (h : act ch p = true) (S S' : Finset (Ch × Fin 8)) (hi : (ch, p) ∉ S)
    (hS : S' = insert (ch, p) S) (Q : PUnit → sProp 𝕄) :
    iprop(ctx m K ∗ kit ch p c ∗ sendPay m ch p c ∗ ow c S' ∗ (sent ch p c -∗ ow c S -∗ Q ⟨⟩)) ⊢ Wp c (send c ch p) Q := by
  subst hS
  exact wp_send_to m K c _ ch p (dv_eq c ch p) h S hi Q

/-- The wait for a send's source gives the share back and closes the send cell. -/
theorem wp_sWait (c : Dev nD) (ch : Ch) (p : Fin 8) (h : act ch p = true) (S : Finset (Ch × Fin 8)) (Q : PUnit → sProp 𝕄) :
    iprop(ctx m K ∗ sent ch p c ∗ ow c S ∗ (sendPay m ch p c -∗ semVal (sCell c ch p) 0 -∗ ow c S -∗ Q ⟨⟩)) ⊢ Wp c (sWait ch p) Q := by
  unfold sWait sent ow
  simp only [Prog.lift]
  iintro ⟨#Hctx, ⟨Hat, Hc⟩, ⟨%W, HO⟩, Hk⟩
  ihave #HI := (ctx_inv m K (c, some (ch, p, false))) $$ Hctx
  iapply (Rounds.wp_wait_rest_token 𝒱₀ ER (Rd m) (c.tc : Thread nD τ) none (κ := K (c, some (ch, p, false)))
      (wpE_waitDma2_eq 𝒱₀ (c.tc : Thread nD τ) none Set.univ) (Set.mem_univ _) () (O := owed S c) (W := W) (R := 0) (m := 0) (T := ∅)
      (by rw [Nat.zero_add, credit_src]; exact (expect_act m c ch p false h).symm)) $$ [Hc HO Hat]
  · isplitr; · iexact HI
    isplitl [Hc]; · rw [credit_src]; iexact Hc
    isplitl [HO]; · iexact HO
    isplitr
    · iapply (mayWait c (.dma (sSem ch p)) S 0 (by rw [show ((c.tc : Thread nD τ), SemLoc.dma (sSem ch p)) = kcell (c, some (ch, p, false)) from rfl, lv_kcell]; exact le_rfl) (fun i _ => Nat.succ_pos _))
      iapply (ctx_lev m K); iexact Hctx
    iexact Hat
  iintro ⟨HO, Hat, -, Hp⟩
  ihave Hp := (Entails.of_eq ((rest_act m c ch p false h).trans (show payI m c 0 (some (ch, p, false)) = sendPay m ch p c from rfl))) $$ Hp
  imod (Rounds.cell_close ER (Rd m) (Set.mem_univ (K (c, some (ch, p, false)))) (fun h => h) (R := 0 + 1) (Rd_later m (sCell c ch p))) $$ [Hat] with Hz
  · isplitr; · iexact HI
    iexact Hat
  rw [wp_ret]; imodintro
  iapply Hk $$ [Hp] [Hz]
  · iexact Hp
  · iexact Hz
  · iexists _; iexact HO

/-- The wait for a landing gives the landed piece and closes the receive cell. -/
theorem wp_rWait (c : Dev nD) (ch : Ch) (p : Fin 8) (h : act ch p = true) (S : Finset (Ch × Fin 8)) (hS : ∀ i ∈ S, rk ch < rk i.1) (Q : PUnit → sProp 𝕄) :
    iprop(ctx m K ∗ toRecv ch p c ∗ ow c S ∗ (recvPay m ch p c -∗ semVal (rCell c ch p) 0 -∗ ow c S -∗ Q ⟨⟩)) ⊢ Wp c (rWait ch p) Q := by
  unfold rWait toRecv ow
  simp only [Prog.lift]
  iintro ⟨#Hctx, ⟨Hat, Hc⟩, ⟨%W, HO⟩, Hk⟩
  ihave #HI := (ctx_inv m K (c, some (ch, p, true))) $$ Hctx
  iapply (Rounds.wp_wait_rest_token 𝒱₀ ER (Rd m) (c.tc : Thread nD τ) none (κ := K (c, some (ch, p, true)))
      (wpE_waitDma2_eq 𝒱₀ (c.tc : Thread nD τ) none Set.univ) (Set.mem_univ _) () (O := owed S c) (W := W) (R := 0) (m := 0) (T := ∅)
      (by rw [Nat.zero_add, credit_dst]; exact (expect_act m c ch p true h).symm)) $$ [Hc HO Hat]
  · isplitr; · iexact HI
    isplitl [Hc]; · rw [credit_dst]; iexact Hc
    isplitl [HO]; · iexact HO
    isplitr
    · iapply (mayWait c (.dma (rSem ch p)) S (rk ch + 1) (by rw [show ((c.tc : Thread nD τ), SemLoc.dma (rSem ch p)) = kcell (c, some (ch, p, true)) from rfl, lv_kcell]; exact le_rfl) (fun i hi => Nat.succ_lt_succ (hS i hi)))
      iapply (ctx_lev m K); iexact Hctx
    iexact Hat
  iintro ⟨HO, Hat, -, Hp⟩
  ihave Hp := (Entails.of_eq ((rest_act m c ch p true h).trans (show payI m c 0 (some (ch, p, true)) = recvPay m ch p c from rfl))) $$ Hp
  imod (Rounds.cell_close ER (Rd m) (Set.mem_univ (K (c, some (ch, p, true)))) (fun h => h) (R := 0 + 1) (Rd_later m (rCell c ch p))) $$ [Hat] with Hz
  · isplitr; · iexact HI
    iexact Hat
  rw [wp_ret]; imodintro
  iapply Hk $$ [Hp] [Hz]
  · iexact Hp
  · iexact Hz
  · iexists _; iexact HO

/-- What a device holds before the barrier: its position there, the credit of its three units, the duties it pays at
    its neighbours', and with each the landing pieces that it hands over. -/
def barPre (c : Dev nD) : sProp 𝕄 :=
  iprop(atPos ER (barCell c) 0 ∅ 0 ∗ cred (tallyAt (barCell c) () 3)
    ∗ bigSep Finset.univ fun d : Fin 3 => iprop(dutyTok ER (barCell (nb d c)) 0 d ∗ barPay (F := F) (nb d c) d))

/-- Signalling one neighbour's barrier. -/
theorem wp_barSignal (c n : Dev nD) (d : Fin 3) (hn : n = nb d c) (W : Waits sig Unit) {α : Type} (k : PUnit → Act F α) (Q : α → sProp 𝕄) :
    iprop(ctx m K ∗ dutyTok ER (barCell (nb d c)) 0 d ∗ barPay (F := F) (nb d c) d ∗ owes (c.tc : Thread nD τ) (owed (todo 1 0) c + owedBar d.val c) W
      ∗ (owes (c.tc : Thread nD τ) (owed (todo 1 0) c + owedBar (d.val + 1) c) W -∗ Wp c (k ⟨⟩) Q))
      ⊢ Wp c (.op (.semSignal (n.tc : Thread nD τ) barS 1) k) Q := by
  subst hn
  iintro ⟨#Hctx, Ht, Hp, HO, Hk⟩
  ihave #HI := (ctx_inv m K (nb d c, none)) $$ Hctx
  ihave #HR := (ctx_reached m K (nb d c, none)) $$ Hctx
  iapply (Rounds.wp_signal 𝒱₀ ER (Rd m) (c.tc : Thread nD τ) none (dst := ((nb d c).tc : Thread nD τ)) (κ := K (nb d c, none)) (r := 0)
      (d := d) (by rw [show (((nb d c).tc : Thread nD τ), SemLoc.reg barS) = kcell (nb d c, none) from rfl, Rd_duties]; exact Finset.mem_univ _)
      (Rd_amount m (nb d c) none d) () (O₀ := owed (todo 1 0) c + owedBar d.val c) (owed (todo 1 0) c + owedBar (d.val + 1) c) (by rw [owedBar_step d c, add_assoc]; rfl)) $$ [HO Ht Hp]
  · isplitr; · iexact HI
    isplitl [HO]; · iexact HO
    isplitl [Ht]; · iexact Ht
    isplitl [Hp]
    · iapply (Entails.of_eq ((Rd_payload m (nb d c) none d).trans (show payI m (nb d c) d none = barPay (nb d c) d from rfl)).symm); iexact Hp
    iexact HR
  iexact Hk

/-- The barrier: every neighbour is handed the landing pieces it writes, and hands over those this device writes. -/
theorem wp_barrier (c : Dev nD) (W : Waits sig Unit) (Q : PUnit → sProp 𝕄) :
    iprop(ctx m K ∗ barPre c ∗ owes (c.tc : Thread nD τ) (O₀ c) W
      ∗ ((bigSep Finset.univ fun d => barPay (F := F) c d) -∗ semVal (barCell c) 0 -∗ ow c (todo 1 0) -∗ Q ⟨⟩)) ⊢ Wp c (barrier c) Q := by
  unfold barrier barPre
  rw [bigSep_fin3]
  simp only [semSignalWord, semWaitWord, Prog.lift, Prog.bind_op, Prog.bind_ret, Prog.pure_eq_ret]
  iintro ⟨#Hctx, ⟨Hat, Hc, ⟨Ht0, Hp0⟩, ⟨Ht1, Hp1⟩, Ht2, Hp2⟩, HO, Hk⟩
  unfold O₀
  iapply (wp_barSignal m K c _ 0 rfl W)
  isplitr; · iexact Hctx
  isplitl [Ht0]; · iexact Ht0
  isplitl [Hp0]; · iexact Hp0
  isplitl [HO]; · iexact HO
  iintro HO
  iapply (wp_barSignal m K c _ 1 rfl W)
  isplitr; · iexact Hctx
  isplitl [Ht1]; · iexact Ht1
  isplitl [Hp1]; · iexact Hp1
  isplitl [HO]; · iexact HO
  iintro HO
  iapply (wp_barSignal m K c _ 2 rfl W)
  isplitr; · iexact Hctx
  isplitl [Ht2]; · iexact Ht2
  isplitl [Hp2]; · iexact Hp2
  isplitl [HO]; · iexact HO
  iintro HO
  ihave HO := (Entails.of_eq (show (owes (c.tc : Thread nD τ) (owed (todo 1 0) c + owedBar ((2 : Fin 3).val + 1) c) W : sProp 𝕄)
    = owes (c.tc : Thread nD τ) (owed (todo 1 0) c) W by rw [show ((2 : Fin 3).val + 1) = 3 from rfl, owedBar_end, add_zero])) $$ HO
  ihave #HI := (ctx_inv m K (c, none)) $$ Hctx
  iapply (Rounds.wp_wait_rest_token 𝒱₀ ER (Rd m) (c.tc : Thread nD τ) none (κ := K (c, none))
      (wpE_semWait_eq 𝒱₀ (c.tc : Thread nD τ) none Set.univ) (Set.mem_univ _) () (O := owed (todo 1 0) c) (W := W) (R := 0) (m := 0) (T := ∅)
      (by exact (expect_bar m c).symm)) $$ [Hc HO Hat]
  · isplitr; · iexact HI
    isplitl [Hc]; · iexact Hc
    isplitl [HO]; · iexact HO
    isplitr
    · iapply (mayWait c (.reg barS) (todo 1 0) 1 (by rw [show ((c.tc : Thread nD τ), SemLoc.reg barS) = kcell (c, none) from rfl, lv_kcell]; exact le_rfl)
        (by decide +kernel))
      iapply (ctx_lev m K); iexact Hctx
    iexact Hat
  iintro ⟨HO, Hat, -, Hp⟩
  ihave Hp := (Entails.of_eq (rest_bar m c)) $$ Hp
  imod (Rounds.cell_close ER (Rd m) (Set.mem_univ (K (c, none))) (fun h => h) (R := 0 + 1) (Rd_later m (barCell c))) $$ [Hat] with Hz
  · isplitr; · iexact HI
    iexact Hat
  rw [wp_ret]; imodintro
  iapply Hk $$ [Hp] [Hz]
  · iexact Hp
  · iexact Hz
  · unfold ow; iexists _; iexact HO

end Cert.KernelIdeal.Own

end
-- ==== Proof.KI.Rules3.lean ====
/- The copies between a device's own memories: the input's pieces into two slots by turns, and the result's pieces out of
   two slots by turns, each copy waited for before its slot is used again. -/
module

public import proofs.«01_k».proof.Proof.KI.Rules2

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

theorem inSem_lv (c : Dev nD) (b : Fin 2) : lv (c.tc, .dma (inSem b)) () = 0 :=
  lv_other c _ (by revert b; decide +kernel)
theorem outSem_lv (c : Dev nD) (b : Fin 2) : lv (c.tc, .dma (outSem b)) () = 0 :=
  lv_other c _ (by revert b; decide +kernel)

/-- A device may wait for its own copies whatever it owes. -/
theorem mayWait_own (c : Dev nD) (s : SemLoc sig) (h : lv (c.tc, s) () = 0) (S : Finset (Ch × Fin 8)) :
    ctx (F := F) m K ⊢ MayWait c.tc s () (owed S c) :=
  (ctx_lev m K).trans (mayWait c s S 0 h.le fun i _ => Nat.succ_pos _)

/-! ## The input's pieces -/

/-- The input, whole. -/
def xFull (c : Dev nD) : sProp 𝕄 := (c.tc.loc main_arg0) ↦{fullShare} m (c.tc.loc main_arg0)
/-- An input slot between copies. -/
def inFree (c : Dev nD) (b : Fin 2) : sProp 𝕄 := iprop((∃ Y, ownsTc c (xvM b) fullShare Y) ∗ semVal (c.tc, .dma (inSem b)) 0)
/-- The copy of piece `p` under way: its slot will hold the piece; the rest of the input is held meanwhile. -/
def inFl (c : Dev nD) (p : Fin 8) : sProp 𝕄 :=
  iprop(Flight EC c.tc (.dma (inSem (par p.val))) () (xvM (par p.val)).view.dmaCredit
      iprop(ownsTc c (xvM (par p.val)) fullShare (xv m c p)
        ∗ ((c.tc.loc main_arg0) ↦[(hp xM c .own p).view.set]{fullShare} m (c.tc.loc main_arg0)))
    ∗ ((c.tc.loc main_arg0) ↦[Finset.univ \ (hp xM c .own p).view.set]{fullShare} m (c.tc.loc main_arg0)))

theorem wp_inGo (c : Dev nD) (p : Fin 8) (Q : PUnit → sProp 𝕄) :
    iprop(xFull m c ∗ inFree c (par p.val) ∗ (inFl m c p -∗ Q ⟨⟩)) ⊢ Wp c (inGo c p) Q := by
  unfold inGo xFull inFree inFl
  simp only [Prog.lift]
  unfold ownsTc owns
  iintro ⟨Hx, ⟨⟨%Y, %fd, -, Hd⟩, Hv⟩, Hk⟩
  ihave Hx := (pointsTo_split_subset (Finset.subset_univ (hp xM c .own p).view.set)).1 $$ Hx
  icases Hx with ⟨Hs, Hr⟩
  iapply (wp_dmaLocal EC 𝒱₀ (c.tc : Thread nD τ) none (src := hp xM c .own p) (dst := xvM (par p.val)) (sm := .dma (inSem (par p.val)))
    (fs := m (c.tc.loc main_arg0)) (Sd := (xvM (par p.val)).view.set) (fd := fd) () (xvM (par p.val)).view.dmaCredit rfl
    (View.dmaCredit_pos _ (by decide)) (Finset.Subset.refl _)) $$ [Hs Hd Hv]
  · isplitl [Hs]; · iexact Hs
    isplitl [Hd]; · iexact Hd
    iexact Hv
  iintro HF
  rw [wp_ret]; imodintro
  iapply Hk
  isplitl [HF]
  · iapply (Flight_mono EC (c.tc : Thread nD τ) (D := iprop(((xvM (par p.val)).view.loc c.tc ↦[(xvM (par p.val)).view.set]{fullShare}
        ((xvM (par p.val)).view.write (Elt F) fd (ReadAs.same.apply ((hp xM c .own p).view.read (Elt F) (m (c.tc.loc main_arg0)))) Finset.univ))
      ∗ ((hp xM c .own p).view.loc c.tc ↦[(hp xM c .own p).view.set]{fullShare} m (c.tc.loc main_arg0))))) $$ HF
    iintro ⟨H1, H2⟩
    isplitl [H1]
    · iexists _
      isplitr [H1]
      rotate_left; · iexact H1
      ipureintro
      exact View.read_write_univ _ _
    · iexact H2
  · iexact Hr

theorem wp_inWait (c : Dev nD) (p : Fin 8) (S : Finset (Ch × Fin 8)) (Q : PUnit → sProp 𝕄) :
    iprop(ctx m K ∗ inFl m c p ∗ ow c S
      ∗ (xFull m c -∗ ownsTc c (xvM (par p.val)) fullShare (xv m c p) -∗ semVal (c.tc, .dma (inSem (par p.val))) 0 -∗ ow c S -∗ Q ⟨⟩))
      ⊢ Wp c (inWait c p) Q := by
  unfold inWait xFull inFl ow
  simp only [Prog.lift]
  iintro ⟨#Hctx, ⟨HF, Hr⟩, ⟨%W, HO⟩, Hk⟩
  iapply (wp_waitLocalO EC 𝒱₀ (c.tc : Thread nD τ) none () rfl) $$ [HF HO]
  · isplitl [HF]; · iexact HF
    isplitl [HO]; · iexact HO
    iapply (mayWait_own m K c _ (inSem_lv c _) S); iexact Hctx
  iintro ⟨⟨Hd, Hs⟩, Hv, HO⟩
  rw [wp_ret]; imodintro
  iapply Hk $$ [Hs Hr] [Hd] [Hv]
  · iapply (pointsTo_split_subset (Finset.subset_univ (hp xM c .own p).view.set)).2
    isplitl [Hs] <;> iassumption
  · iexact Hd
  · iexact Hv
  · iexists _; iexact HO

/-! ## The result's pieces -/

/-- The piece that step `s` writes, before and after. -/
def outTodo (c : Dev nD) (s : ℕ) : sProp 𝕄 := iprop(∃ Y, ownsTc c (hp outM c (oq s) (op s)) fullShare Y)
def outDone (c : Dev nD) (s : ℕ) : sProp 𝕄 := ownsTc c (hp outM c (oq s) (op s)) fullShare (outV m c (oq s) (op s))
/-- An output slot between copies. -/
def outFree (c : Dev nD) (b : Fin 2) : sProp 𝕄 := iprop((∃ Y, ownsTc c (ovM b) fullShare Y) ∗ semVal (c.tc, .dma (outSem b)) 0)
/-- The copy of step `s` under way. -/
def outFl (c : Dev nD) (s : ℕ) (b : Fin 2) : sProp 𝕄 :=
  Flight EC c.tc (.dma (outSem b)) () (hp outM c (oq s) (op s)).view.dmaCredit
    iprop(ownsTc c (ovM b) fullShare (outV m c (oq s) (op s)) ∗ outDone m c s)

theorem wp_outGo (c : Dev nD) (s : ℕ) (b : Fin 2) (X : FVec F S512x1024 .f32) (hX : X = outV m c (oq s) (op s)) (Q : PUnit → sProp 𝕄) :
    iprop(ownsTc c (ovM b) fullShare X ∗ semVal (c.tc, .dma (outSem b)) 0 ∗ outTodo c s ∗ (outFl m c s b -∗ Q ⟨⟩))
      ⊢ Wp c (outGo c b (oq s) (op s)) Q := by
  subst hX
  unfold outGo outTodo outFl outDone
  simp only [Prog.lift]
  unfold ownsTc owns
  iintro ⟨⟨%fs, %hfs, Hs⟩, Hv, ⟨%Y, %fd, -, Hd⟩, Hk⟩
  iapply (wp_dmaLocal EC 𝒱₀ (c.tc : Thread nD τ) none (src := ovM b) (dst := hp outM c (oq s) (op s)) (sm := .dma (outSem b))
    (fs := fs) (Sd := (hp outM c (oq s) (op s)).view.set) (fd := fd) () (hp outM c (oq s) (op s)).view.dmaCredit rfl
    (View.dmaCredit_pos _ (by decide)) (Finset.Subset.refl _)) $$ [Hs Hd Hv]
  · isplitl [Hs]; · iexact Hs
    isplitl [Hd]; · iexact Hd
    iexact Hv
  iintro HF
  rw [wp_ret]; imodintro
  iapply Hk
  iapply (Flight_mono EC (c.tc : Thread nD τ) (D := iprop(((hp outM c (oq s) (op s)).view.loc c.tc ↦[(hp outM c (oq s) (op s)).view.set]{fullShare}
        ((hp outM c (oq s) (op s)).view.write (Elt F) fd (ReadAs.same.apply ((ovM b).view.read (Elt F) fs)) Finset.univ))
      ∗ ((ovM b).view.loc c.tc ↦[(ovM b).view.set]{fullShare} fs)))) $$ HF
  iintro ⟨H1, H2⟩
  isplitl [H2]
  · iexists fs
    isplitr; · ipureintro; exact hfs
    iexact H2
  · iexists _
    isplitr [H1]
    rotate_left; · iexact H1
    ipureintro
    exact (View.read_write_univ _ _).trans hfs

theorem wp_outWait (c : Dev nD) (s : ℕ) (b : Fin 2) (S : Finset (Ch × Fin 8)) (Q : PUnit → sProp 𝕄) :
    iprop(ctx m K ∗ outFl m c s b ∗ ow c S ∗ (outFree c b -∗ outDone m c s -∗ ow c S -∗ Q ⟨⟩)) ⊢ Wp c (outWait c b (oq s) (op s)) Q := by
  unfold outWait outFl outFree ow
  simp only [Prog.lift]
  iintro ⟨#Hctx, HF, ⟨%W, HO⟩, Hk⟩
  iapply (wp_waitLocalO EC 𝒱₀ (c.tc : Thread nD τ) none () rfl) $$ [HF HO]
  · isplitl [HF]; · iexact HF
    isplitl [HO]; · iexact HO
    iapply (mayWait_own m K c _ (outSem_lv c _) S); iexact Hctx
  iintro ⟨⟨Hs, Hd⟩, Hv, HO⟩
  rw [wp_ret]; imodintro
  iapply Hk $$ [Hs Hv] [Hd]
  · isplitl [Hs]; · iexists _; iexact Hs
    iexact Hv
  · iexact Hd
  · iexists _; iexact HO

/-- The slot that step `s` uses: free for the first two steps, then with the copy of two steps before under way. -/
def slot (c : Dev nD) (s : ℕ) : sProp 𝕄 := if 2 ≤ s then outFl m c (s - 2) (par s) else outFree c (par s)

/-- The result and its two slots before step `n`: the copies of all steps but the last two are done, those two under way. -/
def outSt (c : Dev nD) (n : ℕ) : sProp 𝕄 :=
  iprop((bigSep (Finset.range (n - 2)) fun s => outDone m c s) ∗ slot m c n ∗ slot m c (n + 1) ∗ bigSep (Finset.Ico n 32) fun s => outTodo c s)

/-- What waiting for the slot of step `s` returns. -/
def oldDone (c : Dev nD) (s : ℕ) : sProp 𝕄 := if 2 ≤ s then outDone m c (s - 2) else iprop(emp)

theorem wp_oldWait (c : Dev nD) (s : ℕ) (S : Finset (Ch × Fin 8)) (Q : PUnit → sProp 𝕄) :
    iprop(ctx m K ∗ slot m c s ∗ ow c S ∗ (outFree c (par s) -∗ oldDone m c s -∗ ow c S -∗ Q ⟨⟩)) ⊢ Wp c (oldWait c s) Q := by
  unfold oldWait slot oldDone
  by_cases h : 2 ≤ s
  · rw [if_pos h, if_pos h, if_pos h]
    exact wp_outWait m K c (s - 2) (par s) S Q
  · rw [if_neg h, if_neg h, if_neg h]
    iintro ⟨-, Hs, HO, Hk⟩
    iapply (Wp_pure c)
    iapply Hk $$ [Hs] []
    · iexact Hs
    · iempintro
    · iexact HO

theorem par_add (s : ℕ) : par (s + 2) = par s := Fin.ext (by show (s + 2) % 2 = s % 2; omega)

theorem ico_step (n : ℕ) (hn : n < 32) (P : ℕ → sProp 𝕄) :
    (bigSep (Finset.Ico n 32) P) = iprop(P n ∗ bigSep (Finset.Ico (n + 1) 32) P) := by
  rw [show Finset.Ico n 32 = insert n (Finset.Ico (n + 1) 32) by
      ext i; rw [Finset.mem_insert, Finset.mem_Ico, Finset.mem_Ico]; omega,
    bigSep_insert (by rw [Finset.mem_Ico]; omega)]
  rfl

theorem range_step (n : ℕ) (P : ℕ → sProp 𝕄) : (bigSep (Finset.range (n + 1)) P) = iprop(P n ∗ bigSep (Finset.range n) P) := by
  rw [Finset.range_add_one, bigSep_insert Finset.notMem_range_self]
  rfl

theorem done_step (c : Dev nD) (n : ℕ) :
    iprop((bigSep (Finset.range (n - 2)) fun s => outDone m c s) ∗ oldDone m c n) ⊢ bigSep (Finset.range (n + 1 - 2)) fun s => outDone m c s := by
  unfold oldDone
  by_cases h : 2 ≤ n
  · rw [if_pos h, show n + 1 - 2 = (n - 2) + 1 by omega, range_step (n - 2) fun s => outDone m c s]
    exact sep_symm
  · rw [if_neg h, show n + 1 - 2 = n - 2 by omega]
    exact sep_elim_left

theorem slot_next (c : Dev nD) (n : ℕ) : slot m c (n + 1 + 1) = outFl m c n (par n) := by
  unfold slot
  rw [if_pos (by omega), show n + 1 + 1 - 2 = n by omega, show n + 1 + 1 = n + 2 from rfl, par_add]

/-- Step `n` of the out-copies, seen from the state of the result and its slots. -/
theorem outSt_step (c : Dev nD) (n : ℕ) (hn : n < 32) :
    outSt m c n ⊢ iprop(slot m c n ∗ outTodo c n ∗ (oldDone m c n -∗ outFl m c n (par n) -∗ outSt m c (n + 1))) := by
  unfold outSt
  rw [ico_step n hn fun s => outTodo c s, slot_next]
  iintro ⟨Hd, H0, H1, Ht, Hts⟩
  isplitl [H0]; · iexact H0
  isplitl [Ht]; · iexact Ht
  iintro Ho HF
  isplitl [Hd Ho]
  · iapply (done_step m c n)
    isplitl [Hd] <;> iassumption
  isplitl [H1]; · iexact H1
  isplitl [HF] <;> iassumption

/-- A step of the out-copies from a landed piece. -/
theorem wp_copyOut (c : Dev nD) (s : ℕ) (hs : s < 32) (M : Big) (q : PosShare TreeShare) (X : FVec F S512x1024 .bf16)
    (hX : wide X = outV m c (oq s) (op s)) (S : Finset (Ch × Fin 8)) (Q : PUnit → sProp 𝕄) :
    iprop(ctx m K ∗ outSt m c s ∗ ownsTc c (pc M (op s)) q X ∗ ow c S
      ∗ (outSt m c (s + 1) -∗ ownsTc c (pc M (op s)) q X -∗ ow c S -∗ Q ⟨⟩)) ⊢ Wp c (copyOut c s M) Q := by
  unfold copyOut
  simp only [Wp_bind]
  iintro ⟨#Hctx, Hst, Hp, HO, Hk⟩
  ihave Hst := (outSt_step m c s hs) $$ Hst
  icases Hst with ⟨Hsl, Ht, Hb⟩
  iapply (wp_oldWait m K c s S)
  isplitr; · iexact Hctx
  isplitl [Hsl]; · iexact Hsl
  isplitl [HO]; · iexact HO
  unfold outFree
  iintro ⟨⟨%Y, Ho⟩, Hv⟩ Hod HO
  iapply (wp_ldP c M (op s) q X)
  isplitl [Hp]; · iexact Hp
  iintro Hp
  iapply (wp_ldR c (ovM (par s)) (ovM_load _) fullShare Y)
  isplitl [Ho]; · iexact Ho
  iintro Ho
  iapply (wp_stO c (par s) (wide X) Y)
  isplitl [Ho]; · iexact Ho
  iintro Ho
  iapply (wp_outGo m c s (par s) (wide X) hX)
  isplitl [Ho]; · iexact Ho
  isplitl [Hv]; · iexact Hv
  isplitl [Ht]; · iexact Ht
  iintro HF
  iapply Hk $$ [Hb Hod HF] [Hp]
  · iapply Hb $$ [Hod]
    · iexact Hod
    · iexact HF
  · iexact Hp
  · iexact HO

end Cert.KernelIdeal.Own

end
-- ==== Proof.KI.Phases.lean ====
/- The kernel's four rounds and its end, each from what its pieces need to what they leave. -/
module

public import proofs.«01_k».proof.Proof.KI.Rules3

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-- Eight pieces in order: each takes its own resources and the running one to its results and the next running one. -/
theorem wp_seq8 (c : Dev nD) (f : Fin 8 → Act F PUnit) (T D : Fin 8 → sProp 𝕄) (R : ℕ → sProp 𝕄)
    (h : ∀ p (Q : PUnit → sProp 𝕄), iprop(ctx m K ∗ T p ∗ R p.val ∗ (D p -∗ R (p.val + 1) -∗ Q ⟨⟩)) ⊢ Wp c (f p) Q) (Q : PUnit → sProp 𝕄) :
    iprop(ctx m K ∗ bigSep Finset.univ T ∗ R 0 ∗ (bigSep Finset.univ D -∗ R 8 -∗ Q ⟨⟩)) ⊢ Wp c (seq8 f) Q := by
  have h' : ∀ (p : Fin 8) (n k : ℕ), p.val = n → n + 1 = k → ∀ Q : PUnit → sProp 𝕄,
      iprop(ctx m K ∗ T p ∗ R n ∗ (D p -∗ R k -∗ Q ⟨⟩)) ⊢ Wp c (f p) Q := by
    rintro p n k rfl rfl Q
    exact h p Q
  unfold seq8
  simp only [Wp_bind]
  rw [bigSep_fin8, bigSep_fin8]
  iintro ⟨#Hctx, ⟨T0, T1, T2, T3, T4, T5, T6, T7⟩, HR, Hk⟩
  iapply (h' 0 0 1 rfl rfl)
  isplitr; · iexact Hctx
  isplitl [T0]; · iexact T0
  isplitl [HR]; · iexact HR
  iintro D0 HR
  iapply (h' 1 1 2 rfl rfl)
  isplitr; · iexact Hctx
  isplitl [T1]; · iexact T1
  isplitl [HR]; · iexact HR
  iintro D1 HR
  iapply (h' 2 2 3 rfl rfl)
  isplitr; · iexact Hctx
  isplitl [T2]; · iexact T2
  isplitl [HR]; · iexact HR
  iintro D2 HR
  iapply (h' 3 3 4 rfl rfl)
  isplitr; · iexact Hctx
  isplitl [T3]; · iexact T3
  isplitl [HR]; · iexact HR
  iintro D3 HR
  iapply (h' 4 4 5 rfl rfl)
  isplitr; · iexact Hctx
  isplitl [T4]; · iexact T4
  isplitl [HR]; · iexact HR
  iintro D4 HR
  iapply (h' 5 5 6 rfl rfl)
  isplitr; · iexact Hctx
  isplitl [T5]; · iexact T5
  isplitl [HR]; · iexact HR
  iintro D5 HR
  iapply (h' 6 6 7 rfl rfl)
  isplitr; · iexact Hctx
  isplitl [T6]; · iexact T6
  isplitl [HR]; · iexact HR
  iintro D6 HR
  iapply (h' 7 7 8 rfl rfl)
  isplitr; · iexact Hctx
  isplitl [T7]; · iexact T7
  isplitl [HR]; · iexact HR
  iintro D7 HR
  iapply Hk $$ [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  · iexact HR

/-! ## What is owed, piece by piece -/

theorem todo1 : ∀ p : Fin 8, (Ch.z, p) ∉ todo 1 (p.val + 1) ∧ todo 1 p.val = insert (.z, p) (todo 1 (p.val + 1)) := by decide +kernel
theorem todo2x : ∀ p : Fin 8, (Ch.x1, p) ∉ insert (.y1, p) (todo 2 (p.val + 1))
    ∧ todo 2 p.val = insert (.x1, p) (insert (.y1, p) (todo 2 (p.val + 1))) := by decide +kernel
theorem todo2y : ∀ p : Fin 8, (Ch.y1, p) ∉ todo 2 (p.val + 1) := by decide +kernel
theorem todo3 : ∀ p : Fin 8, (r2 p, p) ∉ todo 3 (p.val + 1) ∧ todo 3 p.val = insert (r2 p, p) (todo 3 (p.val + 1)) := by decide +kernel
theorem todo_end : todo 1 8 = todo 2 0 ∧ todo 2 8 = todo 3 0 := by decide +kernel
theorem act_r2 : ∀ p : Fin 8, act (r2 p) p = true := by decide
theorem rk2 : ∀ p : Fin 8, ∀ i ∈ todo 2 p.val, 1 < rk i.1 := by decide +kernel
theorem rk3 : ∀ p : Fin 9, ∀ i ∈ todo 3 p.val, 2 < rk i.1 := by decide +kernel
theorem rk4 : ∀ p : Fin 8, ∀ i ∈ todo 3 8, rk (r2 p) < rk i.1 := by decide +kernel

/-! ## Round 1 -/

/-- The piece of step `n`. -/
def pn (n : ℕ) : Fin 8 := ⟨n % 8, Nat.mod_lt _ (by decide)⟩

/-- The input's two slots before piece `n`. -/
def inSt (c : Dev nD) (n : ℕ) : sProp 𝕄 :=
  iprop((if n < 8 then inFl m c (pn n) else iprop(xFull m c ∗ inFree c (par n))) ∗ inFree c (par (n + 1)))

theorem inSt_at (c : Dev nD) (p : Fin 8) : inSt m c p.val = iprop(inFl m c p ∗ inFree c (par (p.val + 1))) := by
  unfold inSt
  rw [if_pos p.isLt, show pn p.val = p from Fin.ext (Nat.mod_eq_of_lt p.isLt)]

/-- The next piece's in-copy, if there is one. -/
theorem wp_inNext (c : Dev nD) (p : Fin 8) (Q : PUnit → sProp 𝕄) :
    iprop(xFull m c ∗ inFree c (par (p.val + 1))
      ∗ ((if p.val + 1 < 8 then inFl m c (pn (p.val + 1)) else iprop(xFull m c ∗ inFree c (par (p.val + 1)))) -∗ Q ⟨⟩))
      ⊢ Wp c (if p.val < 7 then inGo c (p + 1) else pure ⟨⟩) Q := by
  by_cases h : p.val < 7
  · rw [if_pos h, if_pos (by omega), show pn (p.val + 1) = p + 1 by revert p; decide,
      show par (p.val + 1) = par (p + 1).val by revert p; decide]
    exact wp_inGo m c (p + 1) Q
  · rw [if_neg h, if_neg (by omega)]
    iintro ⟨Hx, Hf, Hk⟩
    iapply (Wp_pure c)
    iapply Hk
    isplitl [Hx] <;> iassumption

theorem step1_eq (c : Dev nD) (p : Fin 8) : step1 (F := F) c p
    = inWait c p >>= fun _ => (if p.val < 7 then inGo c (p + 1) else pure ⟨⟩) >>= fun _ => ldR (xvM (par p.val)) >>= fun v =>
        ldP sqM p >>= fun _ => stP p (rnd v) >>= fun _ => send c .z p := by
  unfold step1; split <;> rfl

theorem wp_step1 (c : Dev nD) (p : Fin 8) (Q : PUnit → sProp 𝕄) :
    iprop(ctx m K ∗ ((∃ Y, ownsTc c (pc sqM p) fullShare Y) ∗ kit .z p c) ∗ (inSt m c p.val ∗ ow c (todo 1 p.val))
      ∗ (sent .z p c -∗ (inSt m c (p.val + 1) ∗ ow c (todo 1 (p.val + 1))) -∗ Q ⟨⟩)) ⊢ Wp c (step1 c p) Q := by
  rw [step1_eq]
  simp only [Wp_bind]
  rw [inSt_at]
  iintro ⟨#Hctx, ⟨⟨%Y, Hsq⟩, Hkit⟩, ⟨⟨HF, Hf⟩, HO⟩, Hk⟩
  iapply (wp_inWait m K c p (todo 1 p.val))
  isplitr; · iexact Hctx
  isplitl [HF]; · iexact HF
  isplitl [HO]; · iexact HO
  iintro Hx Hv Hs HO
  iapply (wp_inNext m c p)
  isplitl [Hx]; · iexact Hx
  isplitl [Hf]; · iexact Hf
  iintro Hn
  iapply (wp_ldR c (xvM (par p.val)) (xvM_load _) fullShare (xv m c p))
  isplitl [Hv]; · iexact Hv
  iintro Hv
  iapply (wp_ldP c sqM p fullShare Y)
  isplitl [Hsq]; · iexact Hsq
  iintro Hsq
  iapply (wp_stP c p (rnd (xv m c p)) Y)
  isplitl [Hsq]; · iexact Hsq
  iintro Hsq
  iapply (wp_sendCh m K c .z p rfl (todo 1 (p.val + 1)) (todo 1 p.val) (todo1 p).1 (todo1 p).2)
  isplitr; · iexact Hctx
  isplitl [Hkit]; · iexact Hkit
  isplitl [Hsq]
  · iapply (Entails.of_eq (show ownsTc c (pc sqM p) fullShare (rnd (xv m c p)) = sendPay m .z p c from rfl)); iexact Hsq
  isplitl [HO]; · iexact HO
  iintro Hsent HO
  iapply Hk $$ [Hsent]
  · iexact Hsent
  isplitl [Hn Hv Hs]
  · unfold inSt
    isplitl [Hn]; · iexact Hn
    iapply (Entails.of_eq (show inFree c (par p.val) = inFree (F := F) c (par (p.val + 1 + 1)) from congrArg (inFree c) (par_add p.val).symm))
    unfold inFree
    isplitl [Hv]; · iexists _; iexact Hv
    iexact Hs
  · iexact HO

/-! ## Round 2 -/

theorem steps_own : ∀ p : Fin 8, oq p.val = .own ∧ op p.val = p := by decide
theorem steps_y : ∀ p : Fin 8, oq (8 + 2 * p.val) = .y ∧ op (8 + 2 * p.val) = p := by decide
theorem steps_x : ∀ p : Fin 8, oq (9 + 2 * p.val) = .x ∧ op (9 + 2 * p.val) = p := by decide
theorem steps_d : ∀ p : Fin 8, oq (24 + p.val) = .d ∧ op (24 + p.val) = p := by decide

/-- The sum over z goes across x and y, a half share of it each. -/
theorem sq_halves (c : Dev nD) (p : Fin 8) :
    ownsTc c (pc sqM p) fullShare (v1 m c p) ⊣⊢ iprop(sendPay m .x1 p c ∗ sendPay m .y1 p c) :=
  owns_halves _ _ _ _

theorem wp_step2 (c : Dev nD) (p : Fin 8) (Q : PUnit → sProp 𝕄) :
    iprop(ctx m K ∗ (sent .z p c ∗ toRecv .z p c ∗ kit .x1 p c ∗ kit .y1 p c) ∗ (outSt m c p.val ∗ ow c (todo 2 p.val))
      ∗ ((semVal (sCell c .z p) 0 ∗ semVal (rCell c .z p) 0 ∗ recvPay m .z p c ∗ sent .x1 p c ∗ sent .y1 p c)
          -∗ (outSt m c (p.val + 1) ∗ ow c (todo 2 (p.val + 1))) -∗ Q ⟨⟩)) ⊢ Wp c (step2 c p) Q := by
  unfold step2
  rw [show outGo (F := F) c (par p.val) .own p = outGo c (par p.val) (oq p.val) (op p.val) by rw [(steps_own p).1, (steps_own p).2]]
  simp only [Wp_bind]
  iintro ⟨#Hctx, ⟨Hsent, Hrecv, Hkx, Hky⟩, ⟨Hst, HO⟩, Hk⟩
  iapply (wp_sWait m K c .z p rfl (todo 2 p.val))
  isplitr; · iexact Hctx
  isplitl [Hsent]; · iexact Hsent
  isplitl [HO]; · iexact HO
  iintro Hsq Hz1 HO
  iapply (wp_rWait m K c .z p rfl (todo 2 p.val) (rk2 p))
  isplitr; · iexact Hctx
  isplitl [Hrecv]; · iexact Hrecv
  isplitl [HO]; · iexact HO
  iintro Hrz Hz2 HO
  ihave Hst := (outSt_step m c p.val (by omega)) $$ Hst
  icases Hst with ⟨Hsl, Ht, Hb⟩
  iapply (wp_oldWait m K c p.val (todo 2 p.val))
  isplitr; · iexact Hctx
  isplitl [Hsl]; · iexact Hsl
  isplitl [HO]; · iexact HO
  unfold outFree
  iintro ⟨⟨%Y, Ho⟩, Hv⟩ Hod HO
  ihave Hsq := (Entails.of_eq (show sendPay m .z p c = ownsTc c (pc sqM p) fullShare (v0 m c p) from rfl)) $$ Hsq
  ihave Hrz := (Entails.of_eq (show recvPay m .z p c = ownsTc c (pc rzM p) fullShare (v0 m (zp c) p) from rfl)) $$ Hrz
  iapply (wp_ldP c sqM p fullShare (v0 m c p))
  isplitl [Hsq]; · iexact Hsq
  iintro Hsq
  iapply (wp_ldP c rzM p fullShare (v0 m (zp c) p))
  isplitl [Hrz]; · iexact Hrz
  iintro Hrz
  iapply (wp_ldR c (ovM (par p.val)) (ovM_load _) fullShare Y)
  isplitl [Ho]; · iexact Ho
  iintro Ho
  iapply (wp_stO c (par p.val) (sm m c p) Y)
  isplitl [Ho]; · iexact Ho
  iintro Ho
  iapply (wp_ldR c (ovM (par p.val)) (ovM_load _) fullShare (sm m c p))
  isplitl [Ho]; · iexact Ho
  iintro Ho
  iapply (wp_ldP c sqM p fullShare (v0 m c p))
  isplitl [Hsq]; · iexact Hsq
  iintro Hsq
  iapply (wp_stP c p (v1 m c p) (v0 m c p))
  isplitl [Hsq]; · iexact Hsq
  iintro Hsq
  ihave Hsq := (sq_halves m c p).1 $$ Hsq
  icases Hsq with ⟨Hsx, Hsy⟩
  iapply (wp_sendCh m K c .x1 p rfl (insert (.y1, p) (todo 2 (p.val + 1))) (todo 2 p.val) (todo2x p).1 (todo2x p).2)
  isplitr; · iexact Hctx
  isplitl [Hkx]; · iexact Hkx
  isplitl [Hsx]; · iexact Hsx
  isplitl [HO]; · iexact HO
  iintro Hsx HO
  iapply (wp_sendCh m K c .y1 p rfl (todo 2 (p.val + 1)) (insert (.y1, p) (todo 2 (p.val + 1))) (todo2y p) rfl)
  isplitr; · iexact Hctx
  isplitl [Hky]; · iexact Hky
  isplitl [Hsy]; · iexact Hsy
  isplitl [HO]; · iexact HO
  iintro Hsy HO
  iapply (wp_outGo m c p.val (par p.val) (sm m c p) (by rw [(steps_own p).1, (steps_own p).2]; rfl))
  isplitl [Ho]; · iexact Ho
  isplitl [Hv]; · iexact Hv
  isplitl [Ht]; · iexact Ht
  iintro HF
  iapply Hk $$ [Hz1 Hz2 Hrz Hsx Hsy]
  · isplitl [Hz1]; · iexact Hz1
    isplitl [Hz2]; · iexact Hz2
    isplitl [Hrz]
    · iapply (Entails.of_eq (show recvPay m .z p c = ownsTc c (pc rzM p) fullShare (v0 m (zp c) p) from rfl).symm); iexact Hrz
    isplitl [Hsx] <;> iassumption
  isplitl [Hb Hod HF]
  · iapply Hb $$ [Hod]
    · iexact Hod
    · iexact HF
  · iexact HO

/-! ## Round 3 -/

/-- An out-copy step, its piece and quarter named. -/
theorem wp_copyOutAt (c : Dev nD) (s : ℕ) (hs : s < 32) (M : Big) (q : PosShare TreeShare) (X : FVec F S512x1024 .bf16) (t : Qt) (p : Fin 8)
    (hst : oq s = t ∧ op s = p) (hX : wide X = outV m c t p) (S : Finset (Ch × Fin 8)) (Q : PUnit → sProp 𝕄) :
    iprop(ctx m K ∗ outSt m c s ∗ ownsTc c (pc M p) q X ∗ ow c S
      ∗ (outSt m c (s + 1) -∗ ownsTc c (pc M p) q X -∗ ow c S -∗ Q ⟨⟩)) ⊢ Wp c (copyOut c s M) Q := by
  obtain ⟨rfl, rfl⟩ := hst
  exact wp_copyOut m K c s hs M q X hX S Q

/-- The share of a landed piece that its own passing on leaves: half of what is passed on, all of what is not. -/
def shY (p : Fin 8) : PosShare TreeShare := if p.val % 2 = 0 then fullShare.right else fullShare
def shX (p : Fin 8) : PosShare TreeShare := if p.val % 2 = 1 then fullShare.right else fullShare

/-- Passing a piece of the quarter across y on across x, if it is an even one. -/
theorem wp_passX (c : Dev nD) (p : Fin 8) (Q : PUnit → sProp 𝕄) :
    iprop(ctx m K ∗ (if p.val % 2 = 0 then kit (r2 p) p c else iprop(emp)) ∗ recvPay m .y1 p c ∗ ow c (todo 3 p.val)
      ∗ ((if p.val % 2 = 0 then sent (r2 p) p c else iprop(emp)) -∗ ownsTc c (pc ryM p) (shY p) (v1 m (yn c) p)
          -∗ ow c (todo 3 (if p.val % 2 = 0 then p.val + 1 else p.val)) -∗ Q ⟨⟩)) ⊢ Wp c (if p.val % 2 = 0 then send c .x2 p else pure ⟨⟩) Q := by
  unfold shY
  by_cases h : p.val % 2 = 0
  · have hr : r2 p = .x2 := if_pos h
    have ht := todo3 p
    rw [hr] at ht
    rw [if_pos h, if_pos h, if_pos h, if_pos h, if_pos h, hr]
    iintro ⟨#Hctx, Hkit, Hr, HO, Hk⟩
    ihave Hr := (Entails.of_eq (show recvPay m .y1 p c = ownsTc c (pc ryM p) fullShare (v1 m (yn c) p) from rfl)) $$ Hr
    ihave Hr := (owns_halves (c.tc : Thread nD τ) (pc ryM p) fullShare (v1 m (yn c) p)).1 $$ Hr
    icases Hr with ⟨Hl, Hr⟩
    iapply (wp_sendCh m K c .x2 p (by have := act_r2 p; rwa [hr] at this) (todo 3 (p.val + 1)) (todo 3 p.val) ht.1 ht.2)
    isplitr; · iexact Hctx
    isplitl [Hkit]; · iexact Hkit
    isplitl [Hl]
    · iapply (Entails.of_eq (show sendPay m .x2 p c = ownsTc c (pc ryM p) fullShare.left (v1 m (yn c) p) from rfl).symm); iexact Hl
    isplitl [HO]; · iexact HO
    iintro Hs HO
    iapply Hk $$ [Hs] [Hr]
    · iexact Hs
    · iexact Hr
    · iexact HO
  · rw [if_neg h, if_neg h, if_neg h, if_neg h, if_neg h]
    iintro ⟨-, -, Hr, HO, Hk⟩
    iapply (Wp_pure c)
    iapply Hk $$ [] [Hr]
    · iempintro
    · iapply (Entails.of_eq (show recvPay m .y1 p c = ownsTc c (pc ryM p) fullShare (v1 m (yn c) p) from rfl)); iexact Hr
    · iexact HO

/-- Passing a piece of the quarter across x on across y, if it is an odd one. -/
theorem wp_passY (c : Dev nD) (p : Fin 8) (Q : PUnit → sProp 𝕄) :
    iprop(ctx m K ∗ (if p.val % 2 = 0 then iprop(emp) else kit (r2 p) p c) ∗ recvPay m .x1 p c ∗ ow c (todo 3 (if p.val % 2 = 0 then p.val + 1 else p.val))
      ∗ ((if p.val % 2 = 0 then iprop(emp) else sent (r2 p) p c) -∗ ownsTc c (pc rxM p) (shX p) (v1 m (xn c) p)
          -∗ ow c (todo 3 (p.val + 1)) -∗ Q ⟨⟩)) ⊢ Wp c (if p.val % 2 = 1 then send c .y2 p else pure ⟨⟩) Q := by
  unfold shX
  by_cases h : p.val % 2 = 0
  · have h1 : ¬ p.val % 2 = 1 := by omega
    rw [if_pos h, if_pos h, if_pos h, if_neg h1, if_neg h1]
    iintro ⟨-, -, Hr, HO, Hk⟩
    iapply (Wp_pure c)
    iapply Hk $$ [] [Hr]
    · iempintro
    · iapply (Entails.of_eq (show recvPay m .x1 p c = ownsTc c (pc rxM p) fullShare (v1 m (xn c) p) from rfl)); iexact Hr
    · iexact HO
  · have h1 : p.val % 2 = 1 := by omega
    have hr : r2 p = .y2 := if_neg h
    have ht := todo3 p
    rw [hr] at ht
    rw [if_neg h, if_neg h, if_neg h, if_pos h1, if_pos h1, hr]
    iintro ⟨#Hctx, Hkit, Hr, HO, Hk⟩
    ihave Hr := (Entails.of_eq (show recvPay m .x1 p c = ownsTc c (pc rxM p) fullShare (v1 m (xn c) p) from rfl)) $$ Hr
    ihave Hr := (owns_halves (c.tc : Thread nD τ) (pc rxM p) fullShare (v1 m (xn c) p)).1 $$ Hr
    icases Hr with ⟨Hl, Hr⟩
    iapply (wp_sendCh m K c .y2 p (by have := act_r2 p; rwa [hr] at this) (todo 3 (p.val + 1)) (todo 3 p.val) ht.1 ht.2)
    isplitr; · iexact Hctx
    isplitl [Hkit]; · iexact Hkit
    isplitl [Hl]
    · iapply (Entails.of_eq (show sendPay m .y2 p c = ownsTc c (pc rxM p) fullShare.left (v1 m (xn c) p) from rfl).symm); iexact Hl
    isplitl [HO]; · iexact HO
    iintro Hs HO
    iapply Hk $$ [Hs] [Hr]
    · iexact Hs
    · iexact Hr
    · iexact HO

/-- One piece's resource belongs to the one of two places that uses it. -/
theorem either (b : Prop) [Decidable b] (A : sProp 𝕄) : A ⊣⊢ iprop((if b then A else iprop(emp)) ∗ (if b then iprop(emp) else A)) := by
  by_cases h : b
  · rw [if_pos h, if_pos h]; exact ⟨Laws.sep_emp.2, Laws.sep_emp.1⟩
  · rw [if_neg h, if_neg h]; exact ⟨Laws.emp_sep.2, Laws.emp_sep.1⟩

theorem step3_eq (c : Dev nD) (p : Fin 8) : step3 (F := F) c p
    = rWait .y1 p >>= fun _ => (if p.val % 2 = 0 then send c .x2 p else pure ⟨⟩) >>= fun _ => copyOut c (8 + 2 * p.val) ryM >>= fun _ =>
        rWait .x1 p >>= fun _ => (if p.val % 2 = 1 then send c .y2 p else pure ⟨⟩) >>= fun _ => copyOut c (9 + 2 * p.val) rxM := by
  unfold step3; split <;> split <;> rfl

theorem wp_step3 (c : Dev nD) (p : Fin 8) (Q : PUnit → sProp 𝕄) :
    iprop(ctx m K ∗ (toRecv .y1 p c ∗ toRecv .x1 p c ∗ kit (r2 p) p c) ∗ (outSt m c (8 + 2 * p.val) ∗ ow c (todo 3 p.val))
      ∗ ((semVal (rCell c .y1 p) 0 ∗ semVal (rCell c .x1 p) 0 ∗ sent (r2 p) p c
            ∗ ownsTc c (pc ryM p) (shY p) (v1 m (yn c) p) ∗ ownsTc c (pc rxM p) (shX p) (v1 m (xn c) p))
          -∗ (outSt m c (8 + 2 * (p.val + 1)) ∗ ow c (todo 3 (p.val + 1))) -∗ Q ⟨⟩)) ⊢ Wp c (step3 c p) Q := by
  rw [step3_eq]
  simp only [Wp_bind]
  have hb : (if p.val % 2 = 0 then p.val + 1 else p.val) < 9 := by split <;> omega
  iintro ⟨#Hctx, ⟨Hty, Htx, Hkit⟩, ⟨Hst, HO⟩, Hk⟩
  ihave Hkit := (either (p.val % 2 = 0) (kit (F := F) (r2 p) p c)).1 $$ Hkit
  icases Hkit with ⟨Hk1, Hk2⟩
  iapply (wp_rWait m K c .y1 p rfl (todo 3 p.val) (rk3 ⟨p.val, by omega⟩))
  isplitr; · iexact Hctx
  isplitl [Hty]; · iexact Hty
  isplitl [HO]; · iexact HO
  iintro Hry Hz1 HO
  iapply (wp_passX m K c p)
  isplitr; · iexact Hctx
  isplitl [Hk1]; · iexact Hk1
  isplitl [Hry]; · iexact Hry
  isplitl [HO]; · iexact HO
  iintro Hs1 Hry HO
  iapply (wp_copyOutAt m K c (8 + 2 * p.val) (by omega) ryM (shY p) (v1 m (yn c) p) .y p (steps_y p) rfl _)
  isplitr; · iexact Hctx
  isplitl [Hst]; · iexact Hst
  isplitl [Hry]; · iexact Hry
  isplitl [HO]; · iexact HO
  iintro Hst Hry HO
  iapply (wp_rWait m K c .x1 p rfl _ (rk3 ⟨_, hb⟩))
  isplitr; · iexact Hctx
  isplitl [Htx]; · iexact Htx
  isplitl [HO]; · iexact HO
  iintro Hrx Hz2 HO
  iapply (wp_passY m K c p)
  isplitr; · iexact Hctx
  isplitl [Hk2]; · iexact Hk2
  isplitl [Hrx]; · iexact Hrx
  isplitl [HO]; · iexact HO
  iintro Hs2 Hrx HO
  iapply (wp_copyOutAt m K c (9 + 2 * p.val) (by omega) rxM (shX p) (v1 m (xn c) p) .x p (steps_x p) rfl _)
  isplitr; · iexact Hctx
  isplitl [Hst]
  · iapply (Entails.of_eq (congrArg (outSt m c) (show 8 + 2 * p.val + 1 = 9 + 2 * p.val by omega))); iexact Hst
  isplitl [Hrx]; · iexact Hrx
  isplitl [HO]; · iexact HO
  iintro Hst Hrx HO
  iapply Hk $$ [Hz1 Hz2 Hs1 Hs2 Hry Hrx]
  · isplitl [Hz1]; · iexact Hz1
    isplitl [Hz2]; · iexact Hz2
    isplitl [Hs1 Hs2]
    · iapply (either (p.val % 2 = 0) (sent (F := F) (r2 p) p c)).2
      isplitl [Hs1] <;> iassumption
    isplitl [Hry] <;> iassumption
  isplitl [Hst]
  · iapply (Entails.of_eq (congrArg (outSt m c) (show 9 + 2 * p.val + 1 = 8 + 2 * (p.val + 1) by omega))); iexact Hst
  · iexact HO

/-! ## Round 4 -/

/-- The second round lands the quarter across both axes, whichever way a piece came. -/
theorem recv_r2 (c : Dev nD) (p : Fin 8) : recvPay m (r2 p) p c = ownsTc c (pc rdM p) fullShare (v1 m (yn (xn c)) p) := by
  unfold r2
  by_cases h : p.val % 2 = 0
  · rw [if_pos h]; rfl
  · rw [if_neg h]; unfold recvPay; rw [dstV_y2]; rfl

theorem wp_step4 (c : Dev nD) (p : Fin 8) (Q : PUnit → sProp 𝕄) :
    iprop(ctx m K ∗ toRecv (r2 p) p c ∗ (outSt m c (24 + p.val) ∗ ow c (todo 3 8))
      ∗ ((semVal (rCell c (r2 p) p) 0 ∗ ownsTc c (pc rdM p) fullShare (v1 m (yn (xn c)) p))
          -∗ (outSt m c (24 + (p.val + 1)) ∗ ow c (todo 3 8)) -∗ Q ⟨⟩)) ⊢ Wp c (step4 c p) Q := by
  unfold step4
  simp only [Wp_bind]
  iintro ⟨#Hctx, Ht, ⟨Hst, HO⟩, Hk⟩
  iapply (wp_rWait m K c (r2 p) p (act_r2 p) (todo 3 8) (rk4 p))
  isplitr; · iexact Hctx
  isplitl [Ht]; · iexact Ht
  isplitl [HO]; · iexact HO
  iintro Hr Hz HO
  ihave Hr := (Entails.of_eq (recv_r2 m c p)) $$ Hr
  iapply (wp_copyOutAt m K c (24 + p.val) (by omega) rdM fullShare (v1 m (yn (xn c)) p) .d p (steps_d p) rfl _)
  isplitr; · iexact Hctx
  isplitl [Hst]; · iexact Hst
  isplitl [Hr]; · iexact Hr
  isplitl [HO]; · iexact HO
  iintro Hst Hr HO
  iapply Hk $$ [Hz Hr]
  · isplitl [Hz] <;> iassumption
  isplitl [Hst] <;> iassumption

/-! ## The end -/

theorem outSt_end (c : Dev nD) : outSt m c 32 ⊢ iprop((bigSep (Finset.range 30) fun s => outDone m c s) ∗ outFl m c 30 0 ∗ outFl m c 31 1) := by
  unfold outSt slot
  rw [if_pos (by decide), if_pos (by decide), Finset.Ico_self, bigSep_empty]
  iintro ⟨H1, H2, H3, -⟩
  isplitl [H1]; · iexact H1
  isplitl [H2]; · iexact H2
  iexact H3

theorem done_all (c : Dev nD) : iprop((bigSep (Finset.range 30) fun s => outDone m c s) ∗ outDone m c 30 ∗ outDone m c 31)
    ⊢ bigSep (Finset.range 32) fun s => outDone m c s := by
  rw [range_step 31 fun s => outDone m c s, range_step 30 fun s => outDone m c s]
  iintro ⟨H1, H2, H3⟩
  isplitl [H3]; · iexact H3
  isplitl [H2]; · iexact H2
  iexact H1

theorem wp_waits (c : Dev nD) (ch : Fin 8 → Ch) (h : ∀ p, act (ch p) p = true) (S : Finset (Ch × Fin 8)) (Q : PUnit → sProp 𝕄) :
    iprop(ctx m K ∗ (bigSep Finset.univ fun p => sent (ch p) p c) ∗ ow c S
      ∗ ((bigSep Finset.univ fun p => iprop(sendPay m (ch p) p c ∗ semVal (sCell c (ch p) p) 0)) -∗ ow c S -∗ Q ⟨⟩)) ⊢ Wp c (seq8 fun p => sWait (ch p) p) Q :=
  wp_seq8 m K c _ (fun p => sent (ch p) p c) (fun p => iprop(sendPay m (ch p) p c ∗ semVal (sCell c (ch p) p) 0)) (fun _ => ow c S) (fun p Q => by
    iintro ⟨#Hctx, Hs, HO, Hk⟩
    iapply (wp_sWait m K c (ch p) p (h p) S)
    isplitr; · iexact Hctx
    isplitl [Hs]; · iexact Hs
    isplitl [HO]; · iexact HO
    iintro Hp Hz HO
    iapply Hk $$ [Hp Hz]
    · isplitl [Hp] <;> iassumption
    · iexact HO) Q

theorem wp_finish (c : Dev nD) (S : Finset (Ch × Fin 8)) (Q : PUnit → sProp 𝕄) :
    iprop(ctx m K ∗ (bigSep Finset.univ fun p => sent .x1 p c) ∗ (bigSep Finset.univ fun p => sent .y1 p c) ∗ (bigSep Finset.univ fun p => sent (r2 p) p c)
      ∗ outSt m c 32 ∗ ow c S
      ∗ ((bigSep Finset.univ fun p => iprop(sendPay m .x1 p c ∗ semVal (sCell c .x1 p) 0))
          -∗ (bigSep Finset.univ fun p => iprop(sendPay m .y1 p c ∗ semVal (sCell c .y1 p) 0))
          -∗ (bigSep Finset.univ fun p => iprop(sendPay m (r2 p) p c ∗ semVal (sCell c (r2 p) p) 0))
          -∗ (bigSep (Finset.range 32) fun s => outDone m c s) -∗ outFree c 0 -∗ outFree c 1 -∗ ow c S -∗ Q ⟨⟩)) ⊢ Wp c (finish c) Q := by
  unfold finish
  rw [show outWait (F := F) c 0 .d 6 = outWait c 0 (oq 30) (op 30) from rfl, show outWait (F := F) c 1 .d 7 = outWait c 1 (oq 31) (op 31) from rfl]
  simp only [Wp_bind]
  iintro ⟨#Hctx, Hx, Hy, Hd, Hst, HO, Hk⟩
  iapply (wp_waits m K c (fun _ => .x1) (fun _ => rfl) S)
  isplitr; · iexact Hctx
  isplitl [Hx]; · iexact Hx
  isplitl [HO]; · iexact HO
  iintro Hx HO
  iapply (wp_waits m K c (fun _ => .y1) (fun _ => rfl) S)
  isplitr; · iexact Hctx
  isplitl [Hy]; · iexact Hy
  isplitl [HO]; · iexact HO
  iintro Hy HO
  iapply (wp_waits m K c r2 act_r2 S)
  isplitr; · iexact Hctx
  isplitl [Hd]; · iexact Hd
  isplitl [HO]; · iexact HO
  iintro Hd HO
  ihave Hst := (outSt_end m c) $$ Hst
  icases Hst with ⟨Hdn, H0, H1⟩
  iapply (wp_outWait m K c 30 0 S)
  isplitr; · iexact Hctx
  isplitl [H0]; · iexact H0
  isplitl [HO]; · iexact HO
  iintro Hf0 Hd0 HO
  iapply (wp_outWait m K c 31 1 S)
  isplitr; · iexact Hctx
  isplitl [H1]; · iexact H1
  isplitl [HO]; · iexact HO
  iintro Hf1 Hd1 HO
  iapply Hk $$ [Hx] [Hy] [Hd] [Hdn Hd0 Hd1] [Hf0] [Hf1]
  · iexact Hx
  · iexact Hy
  · iexact Hd
  · iapply (done_all m c)
    isplitl [Hdn]; · iexact Hdn
    isplitl [Hd0] <;> iassumption
  · iexact Hf0
  · iexact Hf1
  · iexact HO

end Cert.KernelIdeal.Own

end
-- ==== Proof.KI.Body.lean ====
/- The kernel's body on one device, from its memories and its keys at launch to its memories at the end. -/
module

public import proofs.«01_k».proof.Proof.KI.Phases

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-! ## The pieces that are carried -/

/-- Every piece of every channel that is carried. -/
def acts : Finset (Ch × Fin 8) := Finset.univ.filter fun i => act i.1 i.2 = true

/-- Of each piece four are carried: across z, across x and across y, and once in the second round. -/
theorem acts_eq (Φ : Ch × Fin 8 → sProp 𝕄) :
    bigSep acts Φ = iprop((bigSep Finset.univ fun p => Φ (.z, p)) ∗ (bigSep Finset.univ fun p => Φ (.x1, p))
      ∗ (bigSep Finset.univ fun p => Φ (.y1, p)) ∗ bigSep Finset.univ fun p => Φ (r2 p, p)) := by
  rw [show acts = Finset.univ.biUnion fun p : Fin 8 => ({(.z, p), (.x1, p), (.y1, p), (r2 p, p)} : Finset (Ch × Fin 8)) from by decide +kernel,
    bigSep_biUnion_eq _ _ _ (fun a _ b _ h => by
      have : ∀ a b : Fin 8, a ≠ b → Disjoint ({(.z, a), (.x1, a), (.y1, a), (r2 a, a)} : Finset (Ch × Fin 8)) {(.z, b), (.x1, b), (.y1, b), (r2 b, b)} := by
        decide +kernel
      exact this a b h),
    ← bigSep_sep', ← bigSep_sep', ← bigSep_sep']
  refine bigSep_congr fun p _ => ?_
  have h1 : ((Ch.z, p) : Ch × Fin 8) ∉ ({(.x1, p), (.y1, p), (r2 p, p)} : Finset (Ch × Fin 8)) := by revert p; decide
  have h2 : ((Ch.x1, p) : Ch × Fin 8) ∉ ({(.y1, p), (r2 p, p)} : Finset (Ch × Fin 8)) := by revert p; decide
  have h3 : ((Ch.y1, p) : Ch × Fin 8) ∉ ({(r2 p, p)} : Finset (Ch × Fin 8)) := by revert p; decide
  rw [bigSep_insert h1, bigSep_insert h2, bigSep_insert h3, bigSep_singleton]
  rfl

/-- Axis by axis. -/
theorem acts_axes (Φ : Ch × Fin 8 → sProp 𝕄) : (bigSep Finset.univ fun d : Fin 3 => bigSep (chs d) Φ) = bigSep acts Φ := by
  rw [show acts = Finset.univ.biUnion chs from by decide +kernel,
    bigSep_biUnion_eq _ _ _ (fun a _ b _ h => by
      have : ∀ a b : Fin 3, a ≠ b → Disjoint (chs a) (chs b) := by decide +kernel
      exact this a b h)]

/-- What the barrier hands over: the landing piece of every send. -/
theorem lands (c : Dev nD) : (bigSep Finset.univ fun d => barPay (F := F) c d) = bigSep acts fun i => landing i.1 i.2 (peer i.1 c) := by
  rw [← acts_axes]
  refine bigSep_congr fun d _ => bigSep_congr fun i hi => ?_
  have hd : ax i.1 = d := (Finset.mem_filter.mp hi).2.1
  rw [← hd]

/-- What it gives away: every landing piece of its own. -/
theorem lands_own (c : Dev nD) : (bigSep Finset.univ fun d => barPay (F := F) (nb d c) d) = bigSep acts fun i => landing i.1 i.2 c := by
  rw [← acts_axes]
  refine bigSep_congr fun d _ => bigSep_congr fun i hi => ?_
  show landing i.1 i.2 (nb d (nb d c)) = _
  rw [nb_nb]

/-! ## What a device holds at launch and at the end -/

/-- Eight pieces of a buffer, at any contents. -/
def anyP (c : Dev nD) (M : Big) : sProp 𝕄 := bigSep Finset.univ fun p => iprop(∃ Y, ownsTc c (pc M p) fullShare Y)

theorem landing_r2 (c : Dev nD) (p : Fin 8) : landing (F := F) (r2 p) p c = iprop(∃ Y, ownsTc c (pc rdM p) fullShare Y) := by
  unfold r2
  by_cases h : p.val % 2 = 0
  · rw [if_pos h]; rfl
  · rw [if_neg h]; rfl

theorem lands_bufs (c : Dev nD) : iprop(anyP (F := F) c rzM ∗ anyP c rxM ∗ anyP c ryM ∗ anyP c rdM) = bigSep Finset.univ fun d => barPay (nb d c) d := by
  rw [lands_own, acts_eq, show (bigSep Finset.univ fun p : Fin 8 => landing (F := F) (r2 p, p).1 (r2 p, p).2 c) = anyP c rdM from
    bigSep_congr fun p _ => landing_r2 c p]
  rfl

/-- The keys to a carried piece: the duties of sending it, the positions of its two cells, and the credit of its landing. -/
def keys (c : Dev nD) (ch : Ch) (p : Fin 8) : sProp 𝕄 :=
  iprop(dutyTok ER (sCell c ch p) 0 0 ∗ dutyTok ER (rCell (peer ch c) ch p) 0 0 ∗ atPos ER (sCell c ch p) 0 ∅ 0 ∗ toRecv ch p c)

/-- The device's slots and buffers between copies. -/
def rest (c : Dev nD) : sProp 𝕄 :=
  iprop(xFull m c ∗ inFree c 0 ∗ inFree c 1 ∗ outFree c 0 ∗ outFree c 1)
def bufs (c : Dev nD) : sProp 𝕄 :=
  iprop(anyP (F := F) c sqM ∗ anyP c rzM ∗ anyP c rxM ∗ anyP c ryM ∗ anyP c rdM)

def bodyPre (c : Dev nD) : sProp 𝕄 :=
  iprop((atPos ER (barCell c) 0 ∅ 0 ∗ cred (tallyAt (barCell c) () 3) ∗ (bigSep Finset.univ fun d : Fin 3 => dutyTok ER (barCell (nb d c)) 0 d)
      ∗ bigSep acts fun i => keys c i.1 i.2)
    ∗ bufs c ∗ rest m c ∗ bigSep (Finset.range 32) fun s => outTodo c s)

def bodyPost (c : Dev nD) : sProp 𝕄 :=
  iprop((semVal (barCell c) 0 ∗ bigSep acts fun i => iprop(semVal (sCell c i.1 i.2) 0 ∗ semVal (rCell c i.1 i.2) 0))
    ∗ bufs c ∗ rest m c ∗ bigSep (Finset.range 32) fun s => outDone m c s)

/-! ## Between the rounds -/

theorem merge2 {I : Type} {s : Finset I} (A B : I → sProp 𝕄) : iprop(bigSep s A ∗ bigSep s B) ⊢ bigSep s fun i => iprop(A i ∗ B i) :=
  Entails.of_eq (bigSep_sep' s A B).symm
theorem merge3 {I : Type} {s : Finset I} (A B C : I → sProp 𝕄) :
    iprop(bigSep s A ∗ bigSep s B ∗ bigSep s C) ⊢ bigSep s fun i => iprop(A i ∗ B i ∗ C i) := by rw [bigSep_sep', bigSep_sep']
theorem merge4 {I : Type} {s : Finset I} (A B C D : I → sProp 𝕄) :
    iprop(bigSep s A ∗ bigSep s B ∗ bigSep s C ∗ bigSep s D) ⊢ bigSep s fun i => iprop(A i ∗ B i ∗ C i ∗ D i) := by
  rw [bigSep_sep', bigSep_sep', bigSep_sep']
theorem part2 {I : Type} {s : Finset I} (A B : I → sProp 𝕄) : (bigSep s fun i => iprop(A i ∗ B i)) ⊢ iprop(bigSep s A ∗ bigSep s B) :=
  Entails.of_eq (bigSep_sep' s A B)
theorem part5 {I : Type} {s : Finset I} (A B C D E : I → sProp 𝕄) :
    (bigSep s fun i => iprop(A i ∗ B i ∗ C i ∗ D i ∗ E i)) ⊢ iprop(bigSep s A ∗ bigSep s B ∗ bigSep s C ∗ bigSep s D ∗ bigSep s E) := by
  rw [bigSep_sep', bigSep_sep', bigSep_sep', bigSep_sep']

/-- The keys and the landing pieces make the sends' kits. -/
theorem kits (c : Dev nD) : iprop((bigSep acts fun i => keys (F := F) c i.1 i.2) ∗ bigSep acts fun i => landing i.1 i.2 (peer i.1 c))
    ⊢ iprop((bigSep acts fun i => kit i.1 i.2 c) ∗ bigSep acts fun i => toRecv i.1 i.2 c) := by
  rw [← bigSep_sep', ← bigSep_sep']
  refine bigSep_mono fun i _ => ?_
  show iprop(keys (F := F) c i.1 i.2 ∗ landing i.1 i.2 (peer i.1 c)) ⊢ iprop(kit i.1 i.2 c ∗ toRecv i.1 i.2 c)
  unfold keys kit
  iintro ⟨⟨H1, H2, H3, H4⟩, H5⟩
  isplitr [H4]
  · isplitl [H1]; · iexact H1
    isplitl [H2]; · iexact H2
    isplitl [H5] <;> iassumption
  · iexact H4

/-- The shares of a piece that was passed on, together again. -/
theorem shares_back (c : Dev nD) (p : Fin 8) :
    iprop(sendPay m (r2 p) p c ∗ ownsTc c (pc ryM p) (shY p) (v1 m (yn c) p) ∗ ownsTc c (pc rxM p) (shX p) (v1 m (xn c) p))
      ⊢ iprop((∃ Y, ownsTc c (pc rxM p) fullShare Y) ∗ ∃ Y, ownsTc c (pc ryM p) fullShare Y) := by
  unfold r2 shY shX
  by_cases h : p.val % 2 = 0
  · have h1 : ¬ p.val % 2 = 1 := by omega
    rw [if_pos h, if_pos h, if_neg h1]
    iintro ⟨Hl, Hr, Hx⟩
    isplitl [Hx]; · iexists _; iexact Hx
    iexists (v1 m (yn c) p)
    iapply (owns_halves (c.tc : Thread nD τ) (pc ryM p) fullShare (v1 m (yn c) p)).2
    isplitl [Hl]
    · iapply (Entails.of_eq (show sendPay m .x2 p c = ownsTc c (pc ryM p) fullShare.left (v1 m (yn c) p) from rfl)); iexact Hl
    · iexact Hr
  · have h1 : p.val % 2 = 1 := by omega
    rw [if_neg h, if_neg h, if_pos h1]
    iintro ⟨Hl, Hy, Hr⟩
    isplitr [Hy]
    rotate_left; · iexists _; iexact Hy
    iexists (v1 m (xn c) p)
    iapply (owns_halves (c.tc : Thread nD τ) (pc rxM p) fullShare (v1 m (xn c) p)).2
    isplitl [Hl]
    · iapply (Entails.of_eq (show sendPay m .y2 p c = ownsTc c (pc rxM p) fullShare.left (v1 m (xn c) p) from rfl)); iexact Hl
    · iexact Hr

theorem bufs_xy (c : Dev nD) :
    iprop((bigSep Finset.univ fun p => sendPay m (r2 p) p c) ∗ (bigSep Finset.univ fun p => ownsTc c (pc ryM p) (shY p) (v1 m (yn c) p))
        ∗ bigSep Finset.univ fun p => ownsTc c (pc rxM p) (shX p) (v1 m (xn c) p))
      ⊢ iprop(anyP (F := F) c rxM ∗ anyP c ryM) :=
  (merge3 _ _ _).trans ((bigSep_mono fun p _ => shares_back m c p).trans (part2 _ _))
theorem bufs_sq (c : Dev nD) :
    iprop((bigSep Finset.univ fun p => sendPay m .x1 p c) ∗ bigSep Finset.univ fun p => sendPay m .y1 p c) ⊢ anyP (F := F) c sqM :=
  (merge2 _ _).trans (bigSep_mono fun p _ => (sq_halves m c p).2.trans (by iintro H; iexists _; iexact H))
theorem recv_landing (ch : Ch) (c : Dev nD) (p : Fin 8) : recvPay m ch p c ⊢ landing (F := F) ch p c := by
  unfold recvPay landing
  iintro H; iexists _; iexact H
theorem bufs_rz (c : Dev nD) : (bigSep Finset.univ fun p => recvPay m .z p c) ⊢ anyP (F := F) c rzM :=
  bigSep_mono fun p _ => by
    exact recv_landing m .z c p
theorem bufs_rd (c : Dev nD) : (bigSep Finset.univ fun p => ownsTc c (pc rdM p) fullShare (v1 m (yn (xn c)) p)) ⊢ anyP (F := F) c rdM :=
  bigSep_mono fun p _ => by
    rw [← landing_r2 c p, ← recv_r2 m c p]
    exact recv_landing m (r2 p) c p

theorem outSt_start (c : Dev nD) : iprop(outFree c 0 ∗ outFree c 1 ∗ bigSep (Finset.range 32) fun s => outTodo c s) ⊢ outSt m c 0 := by
  unfold outSt slot
  rw [if_neg (by decide), if_neg (by decide), show Finset.range (0 - 2) = ∅ from rfl, bigSep_empty, Finset.range_eq_Ico]
  iintro ⟨H0, H1, Ht⟩
  isplitr; · iempintro
  isplitl [H0]; · iexact H0
  isplitl [H1]; · iexact H1
  iexact Ht

theorem inSt_start (c : Dev nD) : iprop(inFl m c 0 ∗ inFree c 1) ⊢ inSt m c 0 := by
  rw [show inSt m c 0 = iprop(inFl m c 0 ∗ inFree c (par (0 + 1))) from inSt_at m c 0]
  exact Entails.rfl
theorem inSt_end (c : Dev nD) : inSt m c 8 ⊢ iprop(xFull m c ∗ inFree c 0 ∗ inFree c 1) := by
  unfold inSt
  rw [if_neg (by decide)]
  iintro ⟨⟨H1, H2⟩, H3⟩
  isplitl [H1]; · iexact H1
  isplitl [H2]; · iexact H2
  iexact H3

theorem wp_body (c : Dev nD) (W : Waits sig Unit) (Q : PUnit → sProp 𝕄) :
    iprop(ctx m K ∗ bodyPre m c ∗ owes (c.tc : Thread nD τ) (O₀ c) W ∗ (bodyPost m c -∗ ow c ∅ -∗ Q ⟨⟩)) ⊢ Wp c (bodyOn c) Q := by
  unfold bodyOn bodyPre bodyPost rest bufs
  simp only [Wp_bind]
  rw [acts_eq (fun i => iprop(semVal (sCell c i.1 i.2) 0 ∗ semVal (rCell c i.1 i.2) 0))]
  iintro ⟨#Hctx, ⟨⟨Hat, Hcr, Hduty, Hkeys⟩, ⟨Hsq, Hbufs⟩, ⟨Hx, Hi0, Hi1, Ho0, Ho1⟩, Htodo⟩, HO, Hk⟩
  ihave Hbufs := (Entails.of_eq (lands_bufs (F := F) c)) $$ Hbufs
  iapply (wp_barrier m K c W)
  isplitr; · iexact Hctx
  isplitl [Hat Hcr Hduty Hbufs]
  · unfold barPre
    isplitl [Hat]; · iexact Hat
    isplitl [Hcr]; · iexact Hcr
    iapply (merge2 (s := Finset.univ) (fun d : Fin 3 => dutyTok ER (barCell (nb d c)) 0 d) (fun d => barPay (F := F) (nb d c) d))
    isplitl [Hduty] <;> iassumption
  isplitl [HO]; · iexact HO
  iintro Hl Hbar HO
  ihave Hl := (Entails.of_eq (lands (F := F) c)) $$ Hl
  ihave Hkits := (kits (F := F) c) $$ [Hkeys Hl]
  · isplitl [Hkeys] <;> iassumption
  icases Hkits with ⟨Hkit, Hrecv⟩
  ihave Hkit := (Entails.of_eq (acts_eq fun i : Ch × Fin 8 => kit (F := F) i.1 i.2 c)) $$ Hkit
  ihave Hrecv := (Entails.of_eq (acts_eq fun i : Ch × Fin 8 => toRecv (F := F) i.1 i.2 c)) $$ Hrecv
  icases Hkit with ⟨Hkz, Hkx, Hky, Hkd⟩
  icases Hrecv with ⟨Hrz, Hrx, Hry, Hrd⟩
  iapply (wp_inGo m c 0)
  isplitl [Hx]; · iexact Hx
  isplitl [Hi0]; · iexact Hi0
  iintro HF
  iapply (wp_seq8 m K c (step1 c) (fun p => iprop((∃ Y, ownsTc c (pc sqM p) fullShare Y) ∗ kit .z p c)) (fun p => sent .z p c)
    (fun n => iprop(inSt m c n ∗ ow c (todo 1 n))) (fun p Q => wp_step1 m K c p Q))
  isplitr; · iexact Hctx
  isplitl [Hsq Hkz]
  · iapply (merge2 (s := Finset.univ) (fun p : Fin 8 => iprop(∃ Y, ownsTc c (pc sqM p) fullShare Y)) (fun p => kit (F := F) .z p c))
    isplitl [Hsq]; · unfold anyP; iexact Hsq
    iexact Hkz
  isplitl [HF Hi1 HO]
  · isplitr [HO]
    · iapply (inSt_start m c)
      isplitl [HF] <;> iassumption
    · iexact HO
  iintro Hsz ⟨Hin, HO⟩
  ihave Hin := (inSt_end m c) $$ Hin
  ihave HO := (Entails.of_eq (congrArg (ow (F := F) c) todo_end.1)) $$ HO
  iapply (wp_seq8 m K c (step2 c) (fun p => iprop(sent .z p c ∗ toRecv .z p c ∗ kit .x1 p c ∗ kit .y1 p c))
    (fun p => iprop(semVal (sCell c .z p) 0 ∗ semVal (rCell c .z p) 0 ∗ recvPay m .z p c ∗ sent .x1 p c ∗ sent .y1 p c))
    (fun n => iprop(outSt m c n ∗ ow c (todo 2 n))) (fun p Q => wp_step2 m K c p Q))
  isplitr; · iexact Hctx
  isplitl [Hsz Hrz Hkx Hky]
  · iapply (merge4 (s := Finset.univ) (fun p : Fin 8 => sent (F := F) .z p c) (fun p => toRecv .z p c) (fun p => kit .x1 p c) (fun p => kit .y1 p c))
    isplitl [Hsz]; · iexact Hsz
    isplitl [Hrz]; · iexact Hrz
    isplitl [Hkx]; · iexact Hkx
    iexact Hky
  isplitl [Ho0 Ho1 Htodo HO]
  · isplitr [HO]
    · iapply (outSt_start m c)
      isplitl [Ho0]; · iexact Ho0
      isplitl [Ho1] <;> iassumption
    · iexact HO
  iintro HD ⟨Hst, HO⟩
  ihave HD := (part5 (s := Finset.univ) (fun p : Fin 8 => (semVal (sCell c .z p) 0 : sProp 𝕄)) (fun p => semVal (rCell c .z p) 0) (fun p => recvPay m .z p c)
    (fun p => sent .x1 p c) (fun p => sent .y1 p c)) $$ HD
  icases HD with ⟨Vsz, Vrz, Bz, Hsx, Hsy⟩
  ihave HO := (Entails.of_eq (congrArg (ow (F := F) c) todo_end.2)) $$ HO
  iapply (wp_seq8 m K c (step3 c) (fun p => iprop(toRecv .y1 p c ∗ toRecv .x1 p c ∗ kit (r2 p) p c))
    (fun p => iprop(semVal (rCell c .y1 p) 0 ∗ semVal (rCell c .x1 p) 0 ∗ sent (r2 p) p c
      ∗ ownsTc c (pc ryM p) (shY p) (v1 m (yn c) p) ∗ ownsTc c (pc rxM p) (shX p) (v1 m (xn c) p)))
    (fun n => iprop(outSt m c (8 + 2 * n) ∗ ow c (todo 3 n))) (fun p Q => wp_step3 m K c p Q))
  isplitr; · iexact Hctx
  isplitl [Hry Hrx Hkd]
  · iapply (merge3 (s := Finset.univ) (fun p : Fin 8 => toRecv (F := F) .y1 p c) (fun p => toRecv .x1 p c) (fun p => kit (r2 p) p c))
    isplitl [Hry]; · iexact Hry
    isplitl [Hrx]; · iexact Hrx
    iexact Hkd
  isplitl [Hst HO]
  · isplitl [Hst] <;> iassumption
  iintro HD ⟨Hst, HO⟩
  ihave HD := (part5 (s := Finset.univ) (fun p : Fin 8 => (semVal (rCell c .y1 p) 0 : sProp 𝕄)) (fun p => semVal (rCell c .x1 p) 0) (fun p => sent (r2 p) p c)
    (fun p => ownsTc c (pc ryM p) (shY p) (v1 m (yn c) p)) (fun p => ownsTc c (pc rxM p) (shX p) (v1 m (xn c) p))) $$ HD
  icases HD with ⟨Vry, Vrx, Hsd, By, Bx⟩
  iapply (wp_seq8 m K c (step4 c) (fun p => toRecv (r2 p) p c)
    (fun p => iprop(semVal (rCell c (r2 p) p) 0 ∗ ownsTc c (pc rdM p) fullShare (v1 m (yn (xn c)) p)))
    (fun n => iprop(outSt m c (24 + n) ∗ ow c (todo 3 8))) (fun p Q => wp_step4 m K c p Q))
  isplitr; · iexact Hctx
  isplitl [Hrd]; · iexact Hrd
  isplitl [Hst HO]
  · isplitl [Hst] <;> iassumption
  iintro HD ⟨Hst, HO⟩
  ihave HD := (part2 (s := Finset.univ) (fun p : Fin 8 => (semVal (rCell c (r2 p) p) 0 : sProp 𝕄)) (fun p => ownsTc c (pc rdM p) fullShare (v1 m (yn (xn c)) p))) $$ HD
  icases HD with ⟨Vrd, Bd⟩
  ihave HO := (Entails.of_eq (congrArg (ow (F := F) c) (show todo 3 8 = ∅ from by decide +kernel))) $$ HO
  iapply (wp_finish m K c ∅)
  isplitr; · iexact Hctx
  isplitl [Hsx]; · iexact Hsx
  isplitl [Hsy]; · iexact Hsy
  isplitl [Hsd]; · iexact Hsd
  isplitl [Hst]; · iexact Hst
  isplitl [HO]; · iexact HO
  iintro Ex Ey Ed Hdone Ho0 Ho1 HO
  ihave Ex := (part2 (s := Finset.univ) (fun p : Fin 8 => sendPay m .x1 p c) (fun p => semVal (sCell c .x1 p) 0)) $$ Ex
  ihave Ey := (part2 (s := Finset.univ) (fun p : Fin 8 => sendPay m .y1 p c) (fun p => semVal (sCell c .y1 p) 0)) $$ Ey
  ihave Ed := (part2 (s := Finset.univ) (fun p : Fin 8 => sendPay m (r2 p) p c) (fun p => semVal (sCell c (r2 p) p) 0)) $$ Ed
  icases Ex with ⟨Px, Vsx⟩
  icases Ey with ⟨Py, Vsy⟩
  icases Ed with ⟨Pd, Vsd⟩
  icases Hin with ⟨Hx, Hi0, Hi1⟩
  iapply Hk $$ [-HO]
  · isplitl [Hbar Vsz Vrz Vsx Vrx Vsy Vry Vsd Vrd]
    · isplitl [Hbar]; · iexact Hbar
      isplitl [Vsz Vrz]
      · iapply (merge2 (s := Finset.univ) (fun p : Fin 8 => (semVal (sCell c .z p) 0 : sProp 𝕄)) (fun p => semVal (rCell c .z p) 0))
        isplitl [Vsz] <;> iassumption
      isplitl [Vsx Vrx]
      · iapply (merge2 (s := Finset.univ) (fun p : Fin 8 => (semVal (sCell c .x1 p) 0 : sProp 𝕄)) (fun p => semVal (rCell c .x1 p) 0))
        isplitl [Vsx] <;> iassumption
      isplitl [Vsy Vry]
      · iapply (merge2 (s := Finset.univ) (fun p : Fin 8 => (semVal (sCell c .y1 p) 0 : sProp 𝕄)) (fun p => semVal (rCell c .y1 p) 0))
        isplitl [Vsy] <;> iassumption
      · iapply (merge2 (s := Finset.univ) (fun p : Fin 8 => (semVal (sCell c (r2 p) p) 0 : sProp 𝕄)) (fun p => semVal (rCell c (r2 p) p) 0))
        isplitl [Vsd] <;> iassumption
    isplitl [Px Py Pd Bz By Bx Bd]
    · isplitl [Px Py]
      · iapply (bufs_sq m c); isplitl [Px] <;> iassumption
      isplitl [Bz]; · iapply (bufs_rz m c); iexact Bz
      ihave Hxy := (bufs_xy m c) $$ [Pd By Bx]
      · isplitl [Pd]; · iexact Pd
        isplitl [By] <;> iassumption
      icases Hxy with ⟨H1, H2⟩
      isplitl [H1]; · iexact H1
      isplitl [H2]; · iexact H2
      iapply (bufs_rd m c); iexact Bd
    isplitr [Hdone]
    · isplitl [Hx]; · iexact Hx
      isplitl [Hi0]; · iexact Hi0
      isplitl [Hi1]; · iexact Hi1
      isplitl [Ho0] <;> iassumption
    · iexact Hdone
  · iexact HO

end Cert.KernelIdeal.Own

end
-- ==== Proof.KI.Mem.lean ====
/- The buffers and their pieces: a buffer is its eight pieces, and the result is the thirty-two that the out-copies write. -/
module

public import proofs.«01_k».proof.Proof.KI.Body

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## A buffer and its eight pieces -/

theorem pieceR_disjoint (p p' : Fin 8) (h : p ≠ p') : Disjoint (pieceR p).set (pieceR p').set := by
  refine Rect.unit_disjoint (0 : Fin 2) ?_
  show 512 * p.val + 512 ≤ 512 * p'.val ∨ 512 * p'.val + 512 ≤ 512 * p.val
  have : p.val ≠ p'.val := fun e => h (Fin.ext e)
  omega

theorem pieceR_cover : (Finset.univ : Finset (Fin 8)).biUnion (fun p => (pieceR p).set) = Finset.univ := by
  ext i
  refine ⟨fun _ => Finset.mem_univ _, fun _ => Finset.mem_biUnion.mpr ?_⟩
  have h0 : (i 0).val < 4096 := (i 0).isLt
  have h1 : (i 1).val < 1024 := (i 1).isLt
  refine ⟨⟨(i 0).val / 512, by omega⟩, Finset.mem_univ _, Rect.mem_set_unit.mpr fun a => ?_⟩
  fin_cases a
  · show 512 * ((i 0).val / 512) ≤ (i 0).val ∧ (i 0).val < 512 * ((i 0).val / 512) + 512
    omega
  · show 0 ≤ (i 1).val ∧ (i 1).val < 0 + 1024
    omega

theorem owns_any (c : Dev nD) {sp : Space} {sh : Shape} {e : EltTy} (M : Memref sig .tc sp sh e) (q : PosShare TreeShare) (X : sh.Idx → Elt F e) :
    ownsTc c M q X ⊢ (iprop(∃ Y, ownsTc c M q Y) : sProp 𝕄) := by
  iintro H; iexists X; iexact H

/-- A whole buffer at some contents is its eight pieces, each at some contents, -/
theorem any_split (c : Dev nD) (M : Big) : iprop(∃ X, ownsTc c M fullShare X) ⊢ anyP (F := F) c M := by
  unfold anyP
  iintro ⟨%X, H⟩
  iapply (show ownsTc c M fullShare X ⊢ (bigSep Finset.univ fun p : Fin 8 => iprop(∃ Y, ownsTc c (pc M p) fullShare Y) : sProp 𝕄) from
    (owns_rects (c.tc : Thread nD τ) M fullShare pieceR (fun _ _ => rfl) pieceR_disjoint pieceR_cover X).trans
      (bigSep_mono fun p _ => owns_any c (pc M p) fullShare _))
  iexact H

/-- and back. -/
theorem any_join (c : Dev nD) (M : Big) : anyP (F := F) c M ⊢ iprop(∃ X, ownsTc c M fullShare X) := by
  unfold anyP
  have hne : ∀ _ : Fin 8, Nonempty (S512x1024.Idx → Elt F EltTy.bf16) := fun _ => ⟨fun _ => (Elt.inhabited F EltTy.bf16).default⟩
  refine (@BI.bigSep_exists_pi _ _ _ _ _ hne Finset.univ (fun (p : Fin 8) (Y : S512x1024.Idx → Elt F EltTy.bf16) => (ownsTc c (pc M p) fullShare Y : sProp 𝕄))).trans ?_
  iintro ⟨%Ys, H⟩
  iexists (Rect.glue pieceR pieceR_cover Ys)
  iapply (owns_of_rects (c.tc : Thread nD τ) M fullShare pieceR (fun _ _ => rfl) pieceR_disjoint pieceR_cover (Rect.glue pieceR pieceR_cover Ys))
  iapply (Entails.of_eq (bigSep_congr fun p _ => show (ownsTc c (pc M p) fullShare (Ys p) : sProp 𝕄)
      = owns (c.tc : Thread nD τ) (M.slice (pieceR p) (fun _ => rfl)) fullShare (fun j => Rect.glue pieceR pieceR_cover Ys ((pieceR p).emb j)) from by
    rw [show (fun j => Rect.glue pieceR pieceR_cover Ys ((pieceR p).emb j)) = Ys p from
      funext fun y => Rect.glue_emb pieceR pieceR_cover pieceR_disjoint Ys p y]
    rfl))
  iexact H

/-! ## The result and its pieces -/

/-- Which of the four quarters, in the order of the rows, a device's own, and those of the devices across y, x and both, are. -/
def qn (c : Dev nD) : Qt → ℕ
  | .own => 2 * (c.val / 4) + c.val / 2 % 2
  | .y => 2 * (c.val / 4) + (1 - c.val / 2 % 2)
  | .x => 2 * (1 - c.val / 4) + c.val / 2 % 2
  | .d => 2 * (1 - c.val / 4) + (1 - c.val / 2 % 2)

/-- Where a piece of a quarter begins. -/
theorem qOff_eq : ∀ (c : Dev nD) (q : Qt) (p : Fin 8), qOff c p q = ![4096 * qn c q + 512 * p.val, 0] := by decide +kernel

/-- The rows that step `s` of the out-copies writes. -/
def oR (c : Dev nD) (s : Fin 32) : Rect S16384x1024 := hR c (oq s.val) (op s.val)

theorem oR_disjoint (c : Dev nD) (s t : Fin 32) (h : s ≠ t) : Disjoint (oR c s).set (oR c t).set := by
  unfold oR hR
  refine Rect.unit_disjoint (0 : Fin 2) ?_
  rw [qOff_eq, qOff_eq]
  show (4096 * qn c (oq s.val) + 512 * (op s.val).val) + 512 ≤ 4096 * qn c (oq t.val) + 512 * (op t.val).val
    ∨ (4096 * qn c (oq t.val) + 512 * (op t.val).val) + 512 ≤ 4096 * qn c (oq s.val) + 512 * (op s.val).val
  have key : ∀ (c : Dev nD) (s t : Fin 32), s ≠ t → 8 * qn c (oq s.val) + (op s.val).val ≠ 8 * qn c (oq t.val) + (op t.val).val := by decide +kernel
  have := key c s t h
  omega

theorem oR_cover (c : Dev nD) : (Finset.univ : Finset (Fin 32)).biUnion (fun s => (oR c s).set) = Finset.univ := by
  ext i
  refine ⟨fun _ => Finset.mem_univ _, fun _ => Finset.mem_biUnion.mpr ?_⟩
  have h0 : (i 0).val < 16384 := (i 0).isLt
  have h1 : (i 1).val < 1024 := (i 1).isLt
  have key : ∀ (c : Dev nD) (b : Fin 32), ∃ s : Fin 32, 8 * qn c (oq s.val) + (op s.val).val = b.val := by decide +kernel
  obtain ⟨s, hs⟩ := key c ⟨(i 0).val / 512, by omega⟩
  refine ⟨s, Finset.mem_univ _, ?_⟩
  unfold oR hR
  refine Rect.mem_set_unit.mpr fun a => ?_
  rw [qOff_eq]
  have hs' : 8 * qn c (oq s.val) + (op s.val).val = (i 0).val / 512 := hs
  fin_cases a
  · show 4096 * qn c (oq s.val) + 512 * (op s.val).val ≤ (i 0).val ∧ (i 0).val < 4096 * qn c (oq s.val) + 512 * (op s.val).val + 512
    omega
  · show 0 ≤ (i 1).val ∧ (i 1).val < 0 + 1024
    omega

/-- What device `c`'s result holds at the end. -/
def outC (c : Dev nD) : Buf (Elt F) ((c.tc : Thread nD τ).loc main_v1) :=
  Rect.glue (oR c) (oR_cover c) (fun s => outV m c (oq s.val) (op s.val))

theorem range_fin (P : ℕ → sProp 𝕄) : bigSep (Finset.range 32) P = bigSep Finset.univ fun s : Fin 32 => P s.val := by
  rw [show Finset.range 32 = (Finset.univ : Finset (Fin 32)).map Fin.valEmbedding from by decide]
  exact bigSep_map _

theorem out_split (c : Dev nD) (X : Buf (Elt F) ((c.tc : Thread nD τ).loc main_v1)) :
    (((c.tc : Thread nD τ).loc main_v1) ↦{fullShare} X) ⊢ bigSep (Finset.range 32) fun s => outTodo (F := F) c s := by
  rw [range_fin, ← owns_whole (c.tc : Thread nD τ) main_v1 fullShare X]
  exact (owns_rects (c.tc : Thread nD τ) outM fullShare (oR c) (fun _ _ => rfl) (oR_disjoint c) (oR_cover c) X).trans
    (bigSep_mono fun s _ => owns_any c (hp outM c (oq s.val) (op s.val)) fullShare _)

theorem out_join (c : Dev nD) : (bigSep (Finset.range 32) fun s => outDone m c s) ⊢ ((c.tc : Thread nD τ).loc main_v1) ↦{fullShare} outC m c := by
  rw [range_fin, ← owns_whole (c.tc : Thread nD τ) main_v1 fullShare (outC m c)]
  refine (Entails.of_eq (bigSep_congr fun s _ => show outDone m c s.val
      = owns (c.tc : Thread nD τ) (outM.slice (oR c s) (fun _ => rfl)) fullShare (fun j => outC m c ((oR c s).emb j)) from ?_)).trans
    (owns_of_rects (c.tc : Thread nD τ) outM fullShare (oR c) (fun _ _ => rfl) (oR_disjoint c) (oR_cover c) (outC m c))
  rw [show (fun j => outC m c ((oR c s).emb j)) = outV m c (oq s.val) (op s.val) from
    funext fun y => Rect.glue_emb (oR c) (oR_cover c) (oR_disjoint c) _ s y]
  rfl

end Cert.KernelIdeal.Own

end
-- ==== Proof.KI.Start.lean ====
/- How the launch deals the protocol: the positions and duties of the shared cells, device by device, then dealt again to
   who uses them; the invariants of all the cells; and the credit that the launch hands out for what every device owes. -/
module

public import proofs.«01_k».proof.Proof.KI.Mem

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-! ## Separating conjunctions over the cells -/

theorem ci_split (Φ : CI → sProp 𝕄) : bigSep Finset.univ Φ = iprop(Φ none ∗ bigSep Finset.univ fun i => Φ (some i)) := by
  rw [show (Finset.univ : Finset CI) = insert none (Finset.univ.map Function.Embedding.some) from by
      ext i; cases i <;> simp,
    bigSep_insert (by simp), bigSep_map]
  rfl

theorem chan_split (Φ : Ch × Fin 8 × Bool → sProp 𝕄) :
    bigSep Finset.univ Φ = bigSep Finset.univ fun i : Ch × Fin 8 => iprop(Φ (i.1, i.2, false) ∗ Φ (i.1, i.2, true)) := by
  rw [bigSep_univ_equiv (Equiv.prodAssoc Ch (Fin 8) Bool) Φ, bigSep_univ_prod]
  exact bigSep_congr fun i _ => bigSep_univ_eq_bigSepL [false, true] (by decide) (by decide) _

/-- The pieces of the second round's channels that are not carried on them. -/
def idle : Finset (Ch × Fin 8) := Finset.univ.filter fun i => ¬ act i.1 i.2 = true

theorem act_split (Φ : Ch × Fin 8 → sProp 𝕄) : bigSep Finset.univ Φ = iprop(bigSep acts Φ ∗ bigSep idle Φ) :=
  BI.bigSep_filter_split Finset.univ fun i : Ch × Fin 8 => act i.1 i.2 = true

theorem sep_swap {I J : Type} [DecidableEq I] [DecidableEq J] (S : Finset I) (T : Finset J) (Φ : I → J → sProp 𝕄) :
    (bigSep S fun i => bigSep T fun j => Φ i j) = bigSep T fun j => bigSep S fun i => Φ i j := by
  induction T using Finset.induction_on with
  | empty =>
    rw [bigSep_empty, bigSep_congr fun i _ => bigSep_empty]
    exact BI.bigSep_emp_const S
  | insert j T hj ih =>
    rw [bigSep_insert hj, ← ih, bigSep_congr fun i _ => bigSep_insert hj]
    exact bigSep_sep' S _ _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The kernel's semaphores -/

abbrev OS : Type := Fin 2 ⊕ Fin 2 ⊕ (Ch × Fin 8 × Bool)

/-- The kernel's own semaphores: the input copies', the output copies', the channels'. -/
def osem : OS → SemLoc sig
  | .inl b => .dma (inSem b)
  | .inr (.inl b) => .dma (outSem b)
  | .inr (.inr i) => csem (some i)

theorem ownSemFacts : Pipeline.OwnSemFacts cfg0.spec osem := by decide +kernel

/-- The semaphores of a device's own copies, at zero. -/
def io (c : Dev nD) : sProp 𝕄 :=
  iprop((semVal (c.tc, .dma (inSem 0)) 0 ∗ semVal (c.tc, .dma (inSem 1)) 0) ∗ (semVal (c.tc, .dma (outSem 0)) 0 ∗ semVal (c.tc, .dma (outSem 1)) 0))

theorem two (Φ : Fin 2 → sProp 𝕄) : bigSep Finset.univ Φ = iprop(Φ 0 ∗ Φ 1) :=
  bigSep_univ_eq_bigSepL [0, 1] (by decide) (by decide) Φ

theorem ownSems0_eq (c : Dev nD) : (Pipeline.ownSems0 (Ix := Unit) (Name := ℕ) (U := UU) (Lvl := ℕ) (Val := Elt F) (τ := τ) osem c : sProp 𝕄)
    = iprop((semVal (c.tc, .dma (inSem 0)) 0 ∗ semVal (c.tc, .dma (inSem 1)) 0) ∗ (semVal (c.tc, .dma (outSem 0)) 0 ∗ semVal (c.tc, .dma (outSem 1)) 0)
      ∗ bigSep Finset.univ fun i : Ch × Fin 8 × Bool => semVal (kcell (c, some i)) 0) := by
  unfold Pipeline.ownSems0
  rw [BI.bigSep_univ_sum, BI.bigSep_univ_sum, two, two]
  rfl

theorem unscopedSems0_eq (c : Dev nD) : (unscopedSems0 c : sProp 𝕄) = semVal (barCell c) 0 := by
  unfold unscopedSems0
  rw [bigSep_eq_bigSepL_of_eq [SemLoc.reg barS] (by decide) (by decide)]; rfl

theorem sems_split (c : Dev nD) : iprop(Pipeline.ownSems0 (Ix := Unit) (Name := ℕ) (U := UU) (Lvl := ℕ) (Val := Elt F) (τ := τ) osem c ∗ unscopedSems0 c)
    ⊢ iprop(io c ∗ bigSep Finset.univ fun i : CI => (semVal (kcell (c, i)) 0 : sProp 𝕄)) := by
  rw [ownSems0_eq, unscopedSems0_eq, ci_split]
  unfold io
  iintro ⟨⟨H1, H2, H3⟩, H4⟩
  isplitl [H1 H2]
  · isplitl [H1] <;> iassumption
  isplitl [H4] <;> iassumption

/-! ## The launch's element -/

def cells : Finset (GSem nD τ sig) := Finset.univ.map ⟨kcell, kcell_inj⟩

abbrev tokOf (x : (Dev nD × CI) × Fin 3) : GSem nD τ sig × ℕ × Fin 3 := (kcell x.1, 0, x.2)
theorem tokOf_inj : Function.Injective tokOf := by
  rintro ⟨a, d⟩ ⟨b, e⟩ h
  have h1 : a = b := kcell_inj (congrArg (fun x : GSem nD τ sig × ℕ × Fin 3 => x.1) h)
  have h2 : d = e := congrArg (fun x : GSem nD τ sig × ℕ × Fin 3 => x.2.2) h
  rw [h1, h2]
def duties : Finset (GSem nD τ sig × ℕ × Fin 3) := Finset.univ.map ⟨tokOf, tokOf_inj⟩

/-- A device's cells' duties as minted. -/
def minted (c : Dev nD) : sProp 𝕄 := bigSep Finset.univ fun i : CI => bigSep Finset.univ fun d : Fin 3 => dutyTok ER (kcell (c, i)) 0 d

/-- What the launch element deals device `c`. -/
def G (c : Dev nD) : sProp 𝕄 :=
  iprop((bigSep Finset.univ fun i : CI => roundState ER (Rd (F := F) m) (kcell (c, i)) 0)
    ∗ (bigSep Finset.univ fun i : CI => reached ER (kcell (c, i)) 0)
    ∗ (bigSep Finset.univ fun i : CI => atPos ER (kcell (c, i)) 0 ∅ 0) ∗ minted c)

theorem fund_cells : BI.own (ER (initOf cells duties)) ⊢ (|==> bigSep Finset.univ (G (F := F) m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep duties (fun x => (dutyTok ER x.1 x.2.1 x.2.2 : sProp 𝕄)) = bigSep Finset.univ fun c : Dev nD => minted c := by
    unfold duties minted; rw [bigSep_map, bigSep_univ_prod, bigSep_univ_prod]; rfl
  iintro HX
  imod (Rounds.fund ER (Rd (F := F) m) cells duties) $$ HX with ⟨Hst, Hr, Hat, Htok⟩
  imodintro
  ihave Hst := (Entails.of_eq (hX fun g => roundState ER (Rd (F := F) m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-! ## One device's cells put into invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (F := F) m) κ (kcell (c, i))))
          ∗ (bigSep Finset.univ fun i : CI => reached ER (kcell (c, i)) 0)
          ∗ (bigSep Finset.univ fun i : CI => atPos ER (kcell (c, i)) 0 ∅ 0) ∗ minted c ∗ io c) := by
  unfold G
  iintro ⟨Hos, Hus, Hst, Hr, Hat, Htok⟩
  ihave Hv := (sems_split (F := F) c) $$ [Hos Hus]
  · isplitl [Hos] <;> iassumption
  icases Hv with ⟨Hio, Hv⟩
  imod (show iprop((bigSep Finset.univ fun i : CI => semVal (kcell (c, i)) 0) ∗ bigSep Finset.univ fun i : CI => roundState ER (Rd (F := F) m) (kcell (c, i)) 0)
      ⊢ (|={Set.univ}=> bigSep Finset.univ fun i : CI => iprop(∃ κ : ℕ, cellInv ER (Rd (F := F) m) κ (kcell (c, i))) : sProp 𝕄) from by
        rw [← bigSep_sep']
        exact (bigSep_mono fun i _ => (Rounds.body_intro ER (Rd (F := F) m) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-! ## The duties dealt to who pays them -/

theorem pick0 (Φ : Fin 3 → sProp 𝕄) : bigSep Finset.univ Φ ⊢ Φ 0 := bigSep_elim (Finset.mem_univ 0)

/-- A device's cells' duties, those that are used. -/
def used (c : Dev nD) : sProp 𝕄 :=
  iprop((bigSep Finset.univ fun d : Fin 3 => dutyTok ER (barCell c) 0 d)
    ∗ bigSep acts fun i => iprop(dutyTok ER (sCell c i.1 i.2) 0 0 ∗ dutyTok ER (rCell c i.1 i.2) 0 0))

theorem minted_used (c : Dev nD) : minted (F := F) c ⊢ used c := by
  unfold minted used
  rw [ci_split, chan_split, act_split]
  refine Laws.sep_mono_right (sep_elim_left.trans (bigSep_mono fun i _ => Laws.sep_mono (pick0 _) (pick0 _)))

/-- The duties a device pays. -/
def paid (c : Dev nD) : sProp 𝕄 :=
  iprop((bigSep Finset.univ fun d : Fin 3 => dutyTok ER (barCell (nb d c)) 0 d)
    ∗ bigSep acts fun i => iprop(dutyTok ER (sCell c i.1 i.2) 0 0 ∗ dutyTok ER (rCell (peer i.1 c) i.1 i.2) 0 0))

theorem across {J : Type} [DecidableEq J] (T : Finset J) (a : J → Fin 3) (Φ : J → Dev nD → sProp 𝕄) :
    (bigSep Finset.univ fun c : Dev nD => bigSep T fun j => Φ j c) = bigSep Finset.univ fun c : Dev nD => bigSep T fun j => Φ j (nb (a j) c) := by
  rw [sep_swap, sep_swap Finset.univ T fun c j => Φ j (nb (a j) c)]
  exact bigSep_congr fun j _ => bigSep_univ_equiv (nbE (a j)) (Φ j)

theorem dealt : (bigSep Finset.univ fun c : Dev nD => used (F := F) c) = bigSep Finset.univ fun c : Dev nD => paid c := by
  unfold used paid
  rw [bigSep_sep', bigSep_sep',
    across Finset.univ (fun d : Fin 3 => d) (fun d c => (dutyTok ER (barCell c) 0 d : sProp 𝕄)),
    bigSep_congr (s := Finset.univ) fun (c : Dev nD) _ => bigSep_sep' acts (fun i => (dutyTok ER (sCell c i.1 i.2) 0 0 : sProp 𝕄)) (fun i => dutyTok ER (rCell c i.1 i.2) 0 0),
    bigSep_congr (s := Finset.univ) fun (c : Dev nD) _ => bigSep_sep' acts (fun i => (dutyTok ER (sCell c i.1 i.2) 0 0 : sProp 𝕄)) (fun i => dutyTok ER (rCell (peer i.1 c) i.1 i.2) 0 0),
    bigSep_sep', bigSep_sep',
    across acts (fun i => ax i.1) (fun i c => (dutyTok ER (rCell c i.1 i.2) 0 0 : sProp 𝕄))]

theorem minted_paid : (bigSep Finset.univ fun c : Dev nD => minted (F := F) c) ⊢ bigSep Finset.univ fun c : Dev nD => paid c :=
  (bigSep_mono fun c _ => minted_used c).trans (Entails.of_eq dealt)

/-! ## What every device knows, and what each holds -/

/-- The invariants of all the cells, and that each is at round 0 or later. -/
def recs : sProp 𝕄 :=
  iprop((bigSep Finset.univ fun ck : Dev nD × CI => cellInv ER (Rd (F := F) m) (K ck) (kcell ck))
    ∗ bigSep Finset.univ fun ck : Dev nD × CI => reached ER (kcell ck) 0)

instance recs_persistent : BI.Persistent (recs (F := F) m K) := by unfold recs; infer_instance

/-- The positions of its cells, the duties it pays, and the semaphores of its own copies. -/
def own1 (c : Dev nD) : sProp 𝕄 :=
  iprop((bigSep Finset.univ fun i : CI => atPos ER (kcell (c, i)) 0 ∅ 0) ∗ paid c ∗ io c)

def G' (c : Dev nD) : sProp 𝕄 := iprop(∃ K, recs (F := F) m K ∗ own1 c)

theorem G'_intro (c : Dev nD) : iprop(recs (F := F) m K ∗ own1 c) ⊢ G' m c := by
  unfold G'; iintro H; iexists K; iexact H

theorem regroup :
    (bigSep Finset.univ fun c : Dev nD => iprop((bigSep Finset.univ fun i : CI => iprop(∃ κ : ℕ, cellInv ER (Rd (F := F) m) κ (kcell (c, i))))
          ∗ (bigSep Finset.univ fun i : CI => reached ER (kcell (c, i)) 0)
          ∗ (bigSep Finset.univ fun i : CI => atPos ER (kcell (c, i)) 0 ∅ 0) ∗ minted c ∗ io c) : sProp 𝕄)
      ⊢ bigSep Finset.univ (G' m) := by
  rw [bigSep_sep', bigSep_sep', bigSep_sep', bigSep_sep', ← bigSep_univ_prod (fun ck : Dev nD × CI => iprop(∃ κ : ℕ, cellInv ER (Rd (F := F) m) κ (kcell ck))),
    ← bigSep_univ_prod (fun ck : Dev nD × CI => (reached ER (kcell ck) 0 : sProp 𝕄))]
  iintro ⟨HI, #HR, Hat, Htok, Hio⟩
  ihave HK := (BI.bigSep_exists_pi Finset.univ (fun (ck : Dev nD × CI) (κ : ℕ) => (cellInv ER (Rd (F := F) m) κ (kcell ck) : sProp 𝕄))) $$ HI
  icases HK with ⟨%K, #HI⟩
  ihave Htok := (minted_paid (F := F)) $$ Htok
  iapply (with_persistent (R := recs m K) fun c _ => G'_intro m K c)
  isplitr
  · unfold recs
    isplitl; · iexact HI
    iexact HR
  · unfold own1
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem todo_start : todo 1 0 = acts := by decide +kernel

theorem bar_iff {a b : Dev nD} : barCell a = barCell b ↔ a = b :=
  ⟨fun h => congrArg (fun g : GSem nD τ sig => g.1.1) h, fun h => h ▸ rfl⟩
theorem cell_iff {a b : Dev nD × CI} : kcell a = kcell b ↔ a = b := kcell_inj.eq_iff

theorem nb_eq_iff (e : Fin 3) (d c : Dev nD) : c = nb e d ↔ d = nb e c :=
  ⟨fun h => by rw [h, nb_nb], fun h => by rw [h, nb_nb]⟩

theorem owed_at (S : Finset (Ch × Fin 8)) (d : Dev nD) (g : GSem nD τ sig) :
    owed S d g () = ∑ i ∈ S, if g = rCell (peer i.1 d) i.1 i.2 then N else 0 := by
  unfold owed
  rw [Finset.sum_apply, Finsupp.finset_sum_apply]
  exact Finset.sum_congr rfl fun i _ => by rw [tallyAt_apply]; exact if_congr (and_iff_left rfl) rfl rfl
theorem owedBar_at (d : Dev nD) (g : GSem nD τ sig) :
    owedBar 0 d g () = ∑ e : Fin 3, if g = barCell (nb e d) then 1 else 0 := by
  unfold owedBar
  rw [Finset.sum_apply, Finsupp.finset_sum_apply, show (Finset.univ.filter fun e : Fin 3 => 0 ≤ e.val) = Finset.univ from by decide]
  exact Finset.sum_congr rfl fun i _ => by rw [tallyAt_apply]; exact if_congr (and_iff_left rfl) rfl rfl

theorem O₀_bar (d c : Dev nD) : O₀ d (barCell c) () = ∑ e : Fin 3, if d = nb e c then 1 else 0 := by
  unfold O₀
  rw [Pi.add_apply, Finsupp.add_apply, owed_at, owedBar_at, Finset.sum_eq_zero fun i _ => if_neg fun h => ?_, Nat.zero_add]
  · exact Finset.sum_congr rfl fun e _ => if_congr (bar_iff.trans (nb_eq_iff e d c)) rfl rfl
  · have := congrArg Prod.snd (cell_iff.mp h); cases this
theorem O₀_recv (d c : Dev nD) (ch : Ch) (p : Fin 8) (h : act ch p = true) : O₀ d (rCell c ch p) () = if d = peer ch c then N else 0 := by
  have hbar : ∀ e : Fin 3, ¬ rCell c ch p = barCell (nb e d) := fun e h => by
    have := congrArg Prod.snd (cell_iff.mp h); cases this
  unfold O₀
  rw [Pi.add_apply, Finsupp.add_apply, owed_at, owedBar_at, Finset.sum_eq_zero fun e _ => if_neg (hbar e), Nat.add_zero, todo_start,
    Finset.sum_eq_single (ch, p)]
  · refine if_congr ⟨fun h => ?_, fun h => ?_⟩ rfl rfl
    · have h1 : c = peer ch d := congrArg Prod.fst (cell_iff.mp h)
      exact (nb_eq_iff _ _ _).mp h1
    · rw [h, peer_peer]
  · rintro ⟨ch', p'⟩ _ hne
    refine if_neg fun h => hne ?_
    have h1 := congrArg Prod.snd (cell_iff.mp h)
    cases h1
    rfl
  · intro hn
    exact absurd (show (ch, p) ∈ acts from Finset.mem_filter.mpr ⟨Finset.mem_univ _, h⟩) hn

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_comm,
    Finset.sum_congr rfl fun (e : Fin 3) _ => (Finset.sum_ite_eq' Finset.univ (nb e c) fun _ => 1).trans (if_pos (Finset.mem_univ _))]
  rfl
theorem launch_recv (c : Dev nD) (ch : Ch) (p : Fin 8) (h : act ch p = true) :
    tallyOn (rCell c ch p) (launchCredit (Pipeline.owing O₀) 0 (rCell c ch p)) = (tallyAt (rCell c ch p) () N : CellTallies nD τ sig Unit) := by
  unfold tallyAt; refine congrArg _ (Finsupp.ext fun u => ?_); cases u
  rw [Pipeline.launchCredit_owing, Finsupp.single_eq_same, Finset.sum_congr rfl fun d _ => O₀_recv d c ch p h,
    Finset.sum_ite_eq' Finset.univ (peer ch c) fun _ => N, if_pos (Finset.mem_univ _)]

/-- The credit a device starts with: its barrier's three units, and every landing's. -/
def creds (c : Dev nD) : sProp 𝕄 :=
  iprop(cred (tallyAt (barCell c) () 3) ∗ bigSep acts fun i => cred (tallyAt (rCell c i.1 i.2) () N))

def rEmb : Ch × Fin 8 ↪ SemLoc sig := ⟨fun i => csem (some (i.1, i.2, true)), fun i j h => by
  have := csem_inj h
  cases i; cases j; cases this; rfl⟩

theorem creds_intro (c : Dev nD) : (Pipeline.launchCred O₀ c : sProp 𝕄) ⊢ creds c := by
  unfold Pipeline.launchCred creds
  rw [bigSep_univ_at _ (SemLoc.reg barS), launch_bar]
  refine Laws.sep_mono_right ?_
  refine (bigSep_subset (t := acts.map rEmb) fun s hs => ?_).trans ?_
  · obtain ⟨i, -, rfl⟩ := Finset.mem_map.mp hs
    exact Finset.mem_erase.mpr ⟨fun h => (nomatch csem_inj (a₁ := some (i.1, i.2, true)) (a₂ := none) h), Finset.mem_univ _⟩
  · rw [bigSep_map]
    exact bigSep_mono fun i hi => Entails.of_eq (congrArg cred (launch_recv c i.1 i.2 (Finset.mem_filter.mp hi).2))

end Cert.KernelIdeal.Own

end
-- ==== Proof.KI.ProgEq.lean ====
/- The printed kernel is the program over channels and pieces of Prog.lean, by unfolding both. -/
module

public import proofs.«01_k».proof.Proof.KI.Prog

@[expose] public section

noncomputable section

namespace Cert.KernelIdeal.Own

open Cert.KernelIdeal Cert.KernelIdeal.Gen
open Idealize.ShloMosaic Idealize.SL.Sem

variable {F : FTy → Type} [FloatOps F]

set_option maxRecDepth 1000000 in
set_option maxHeartbeats 0 in
/-- The printed kernel is the program above, on the device it runs on. -/
theorem body_eq (t : Fin cfg0.N) :
    bodyAt0 (F := F) t = (do let c ← Prog.lift .deviceId; bodyOn c) := rfl

end Cert.KernelIdeal.Own

end
-- ==== Proof.KI.Run.lean ====
/- The run of the whole program: every device's argument is unchanged, its result holds the thirty-two blocks that the
   out-copies write, and every semaphore reads zero. -/
module

public import proofs.«01_k».proof.Proof.KI.Start
public import proofs.«01_k».proof.Proof.KI.ProgEq
public import Idealize.ShloMosaic.Lib.Pipeline.CollectiveSegs
public import Idealize.ShloMosaic.Lib.Quiescent

@[expose] public section

noncomputable section

namespace Cert.KernelIdeal.Own

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The device's memory, as the launch hands it over and takes it back -/

theorem big_split (c : Dev nD) (b : Ref sig .tc) (M : Big)
    (h : iprop(∃ X, ownsTc c M fullShare X) = (iprop(∃ f : Buf (Elt F) ((c.tc : Thread nD τ).loc b), ((c.tc : Thread nD τ).loc b) ↦{fullShare} f) : sProp 𝕄)) :
    iprop(∃ f : Buf (Elt F) ((c.tc : Thread nD τ).loc b), ((c.tc : Thread nD τ).loc b) ↦{fullShare} f) = (anyP (F := F) c M : sProp 𝕄) := by
  rw [← h]
  exact BI.equiv_iff.mp ⟨any_split c M, any_join c M⟩

theorem owns_buf (c : Dev nD) (b : Ref sig .tc) :
    iprop(∃ X, ownsTc c (Memref.whole b) fullShare X) = (iprop(∃ f : Buf (Elt F) ((c.tc : Thread nD τ).loc b), ((c.tc : Thread nD τ).loc b) ↦{fullShare} f) : sProp 𝕄) := by
  show iprop(∃ X, owns (c.tc : Thread nD τ) (Memref.whole b) fullShare X) = _
  simp only [owns_whole]

/-- The slots between copies, without their semaphores. -/
def slots (c : Dev nD) : sProp 𝕄 :=
  iprop((∃ Y, ownsTc c (xvM 0) fullShare Y) ∗ (∃ Y, ownsTc c (xvM 1) fullShare Y) ∗ (∃ Y, ownsTc c (ovM 0) fullShare Y) ∗ (∃ Y, ownsTc c (ovM 1) fullShare Y))

/-- The kernel's scratch: the five buffers in pieces, and the slots. -/
theorem scratch_eq (c : Dev nD) : (Pipeline.scopedRest cfg0.spec c : sProp 𝕄)
    = iprop(anyP (F := F) c sqM ∗ anyP c rzM ∗ anyP c rxM ∗ anyP c ryM ∗ anyP c rdM ∗ slots c) := by
  rw [scopedRest0_eq, big_split c cc0_scratch0 sqM (owns_buf c cc0_scratch0), big_split c cc0_scratch1 rzM (owns_buf c cc0_scratch1),
    big_split c cc0_scratch2 rxM (owns_buf c cc0_scratch2), big_split c cc0_scratch3 ryM (owns_buf c cc0_scratch3),
    big_split c cc0_scratch4 rdM (owns_buf c cc0_scratch4), ← owns_buf c cc0_scratch5, ← owns_buf c cc0_scratch6, ← owns_buf c cc0_scratch7,
    ← owns_buf c cc0_scratch8]
  rfl

theorem slots_rest (c : Dev nD) : iprop(xFull m c ∗ slots c ∗ io c) ⊢ rest m c := by
  unfold slots io rest inFree outFree
  iintro ⟨Hx, ⟨H1, H2, H3, H4⟩, ⟨V1, V2⟩, V3, V4⟩
  isplitl [Hx]; · iexact Hx
  isplitl [H1 V1]
  · isplitl [H1] <;> iassumption
  isplitl [H2 V2]
  · isplitl [H2] <;> iassumption
  isplitl [H3 V3]
  · isplitl [H3] <;> iassumption
  · isplitl [H4] <;> iassumption
theorem rest_slots (c : Dev nD) : rest m c ⊢ iprop(xFull m c ∗ slots c ∗ io c) := by
  unfold slots io rest inFree outFree
  iintro ⟨Hx, ⟨H1, V1⟩, ⟨H2, V2⟩, ⟨H3, V3⟩, H4, V4⟩
  isplitl [Hx]; · iexact Hx
  isplitl [H1 H2 H3 H4]
  · isplitl [H1]; · iexact H1
    isplitl [H2]; · iexact H2
    isplitl [H3] <;> iassumption
  isplitl [V1 V2]
  · isplitl [V1] <;> iassumption
  · isplitl [V3] <;> iassumption

/-! ## What the kernel starts from and ends with -/

/-- The positions of the cells that no transfer uses. -/
def idlePos (c : Dev nD) : sProp 𝕄 := bigSep idle fun i => iprop(atPos ER (sCell c i.1 i.2) 0 ∅ 0 ∗ atPos ER (rCell c i.1 i.2) 0 ∅ 0)
/-- The same cells closed. -/
def idleSem (c : Dev nD) : sProp 𝕄 := bigSep idle fun i => iprop(semVal (sCell c i.1 i.2) 0 ∗ semVal (rCell c i.1 i.2) 0)

/-- What the launch gives a device: its part of the protocol, its credit, its argument and its result. -/
def start (c : Dev nD) : sProp 𝕄 :=
  iprop(∃ K, ctx (F := F) m K ∗ own1 c ∗ creds c ∗ xFull m c ∗ bigSep (Finset.range 32) fun s => outTodo c s)

def Φ₀ (c : Dev nD) : sProp 𝕄 := iprop(∃ K, ctx (F := F) m K ∗ idlePos c ∗ bodyPre m c)
def Φ₁ (c : Dev nD) : sProp 𝕄 := iprop(idleSem c ∗ bodyPost m c)

theorem merge_keys (c : Dev nD) :
    iprop((bigSep acts fun i => iprop(atPos ER (sCell c i.1 i.2) 0 ∅ 0 ∗ atPos ER (rCell c i.1 i.2) 0 ∅ 0))
      ∗ (bigSep acts fun i => iprop(dutyTok ER (sCell c i.1 i.2) 0 0 ∗ dutyTok ER (rCell (peer i.1 c) i.1 i.2) 0 0))
      ∗ (bigSep acts fun i => cred (tallyAt (rCell c i.1 i.2) () N)))
      ⊢ (bigSep acts fun i => keys c i.1 i.2 : sProp 𝕄) := by
  rw [← bigSep_sep', ← bigSep_sep']
  refine bigSep_mono fun i _ => ?_
  have h : iprop((atPos ER (sCell c i.1 i.2) 0 ∅ 0 ∗ atPos ER (rCell c i.1 i.2) 0 ∅ 0)
      ∗ (dutyTok ER (sCell c i.1 i.2) 0 0 ∗ dutyTok ER (rCell (peer i.1 c) i.1 i.2) 0 0) ∗ cred (tallyAt (rCell c i.1 i.2) () N))
      ⊢ (keys c i.1 i.2 : sProp 𝕄) := by
    unfold keys toRecv
    iintro ⟨⟨H1, H2⟩, ⟨H3, H4⟩, H5⟩
    isplitl [H3]; · iexact H3
    isplitl [H4]; · iexact H4
    isplitl [H1]; · iexact H1
    isplitl [H2] <;> iassumption
  exact h

theorem pos_split (c : Dev nD) : (bigSep Finset.univ fun i : CI => (atPos ER (kcell (c, i)) 0 ∅ 0 : sProp 𝕄))
    = iprop(atPos ER (barCell c) 0 ∅ 0 ∗ (bigSep acts fun i => iprop(atPos ER (sCell c i.1 i.2) 0 ∅ 0 ∗ atPos ER (rCell c i.1 i.2) 0 ∅ 0)) ∗ idlePos c) := by
  rw [ci_split, chan_split, act_split]; rfl

theorem phi0_intro (c : Dev nD) :
    iprop(start m c ∗ Pipeline.prefHeld Pipeline.Prefetch.none c (fun _ => fullShare.right) (fun k => k.elim0) ∗ Pipeline.scopedRest cfg0.spec c)
      ⊢ Φ₀ (F := F) m c := by
  rw [scratch_eq]
  unfold start own1 paid creds Φ₀ bodyPre bufs
  rw [pos_split]
  iintro ⟨⟨%K, Hctx, ⟨⟨HatB, Hat, Hidle⟩, ⟨Hd, Ht⟩, Hio⟩, ⟨HcB, Hcr⟩, Hx, Hout⟩, -, ⟨Hsq, Hrz, Hrx, Hry, Hrd, Hsl⟩⟩
  iexists K
  isplitl [Hctx]; · iexact Hctx
  isplitl [Hidle]; · iexact Hidle
  isplitl [HatB Hat Hd Ht HcB Hcr]
  · isplitl [HatB]; · iexact HatB
    isplitl [HcB]; · iexact HcB
    isplitl [Hd]; · iexact Hd
    iapply (merge_keys (F := F) c)
    isplitl [Hat]; · iexact Hat
    isplitl [Ht] <;> iassumption
  isplitl [Hsq Hrz Hrx Hry Hrd]
  · isplitl [Hsq]; · iexact Hsq
    isplitl [Hrz]; · iexact Hrz
    isplitl [Hrx]; · iexact Hrx
    isplitl [Hry] <;> iassumption
  isplitr [Hout]
  · iapply (slots_rest m c)
    isplitl [Hx]; · iexact Hx
    isplitl [Hsl] <;> iassumption
  · iexact Hout

/-- What a device gives back: the barrier's semaphore, its argument unchanged, its result written. -/
def done (c : Dev nD) : sProp 𝕄 :=
  iprop(unscopedSems0 c ∗ xFull m c ∗ ((c.tc : Thread nD τ).loc main_v1) ↦{fullShare} outC m c)

theorem sems_join (c : Dev nD) : iprop((bigSep acts fun i => iprop(semVal (sCell c i.1 i.2) 0 ∗ semVal (rCell c i.1 i.2) 0)) ∗ idleSem c ∗ io c)
    ⊢ (Pipeline.ownSems0 (Ix := Unit) (Name := ℕ) (U := UU) (Lvl := ℕ) (Val := Elt F) (τ := τ) osem c : sProp 𝕄) := by
  rw [ownSems0_eq, chan_split, act_split]
  unfold idleSem io
  iintro ⟨H1, H2, H3, H4⟩
  isplitl [H3]; · iexact H3
  isplitl [H4]; · iexact H4
  isplitl [H1] <;> iassumption

theorem phi1_exit (c : Dev nD) : Φ₁ (F := F) m c ⊢ iprop(done m c ∗ Pipeline.ownSems0 osem c ∗ Pipeline.scopedRest cfg0.spec c) := by
  rw [scratch_eq]
  unfold Φ₁ bodyPost bufs done
  rw [unscopedSems0_eq]
  iintro ⟨Hidle, ⟨HB, Hs⟩, ⟨Hsq, Hrz, Hrx, Hry, Hrd⟩, Hrest, Hout⟩
  ihave Hrest := (rest_slots m c) $$ Hrest
  icases Hrest with ⟨Hx, Hsl, Hio⟩
  ihave Hout := (out_join m c) $$ Hout
  isplitl [HB Hx Hout]
  · isplitl [HB]; · iexact HB
    isplitl [Hx] <;> iassumption
  isplitl [Hs Hidle Hio]
  · iapply (sems_join (F := F) c)
    isplitl [Hs]; · iexact Hs
    isplitl [Hidle] <;> iassumption
  isplitl [Hsq]; · iexact Hsq
  isplitl [Hrz]; · iexact Hrz
  isplitl [Hrx]; · iexact Hrx
  isplitl [Hry]; · iexact Hry
  isplitl [Hrd] <;> iassumption

/-! ## The cells that no transfer uses -/

theorem idle_act {i : Ch × Fin 8} (hi : i ∈ idle) : act i.1 i.2 = false := by
  have := (Finset.mem_filter.mp hi).2
  exact Bool.eq_false_iff.mpr this

theorem close_one (c : Dev nD) (i : Ch × Fin 8) (hi : i ∈ idle) :
    iprop(ctx (F := F) m K ∗ atPos ER (sCell c i.1 i.2) 0 ∅ 0 ∗ atPos ER (rCell c i.1 i.2) 0 ∅ 0)
      ⊢ |={Set.univ}=> iprop(semVal (sCell c i.1 i.2) 0 ∗ semVal (rCell c i.1 i.2) 0) := by
  iintro ⟨#Hctx, H1, H2⟩
  ihave #HI1 := (ctx_inv m K (c, some (i.1, i.2, false))) $$ Hctx
  ihave #HI2 := (ctx_inv m K (c, some (i.1, i.2, true))) $$ Hctx
  imod (Rounds.cell_close ER (Rd (F := F) m) (Set.mem_univ (K (c, some (i.1, i.2, false)))) (fun h => h) (R := 0) (Rd_idle m c i.1 i.2 false (idle_act hi))) $$ [H1] with V1
  · isplitr; · iexact HI1
    iexact H1
  imod (Rounds.cell_close ER (Rd (F := F) m) (Set.mem_univ (K (c, some (i.1, i.2, true)))) (fun h => h) (R := 0) (Rd_idle m c i.1 i.2 true (idle_act hi))) $$ [H2] with V2
  · isplitr; · iexact HI2
    iexact H2
  imodintro
  isplitl [V1] <;> iassumption

theorem close_idle (c : Dev nD) : iprop(ctx (F := F) m K ∗ idlePos c) ⊢ |={Set.univ}=> idleSem c := by
  unfold idlePos idleSem
  exact (with_persistent fun i hi => close_one m K c i hi).trans (bigSep_fupd _ _)

/-! ## The obligation of the kernel's body -/

def dats (_ : Fin 1) (c : Dev nD) : Dat τ (Elt F) Unit ℕ UU ℕ cfg0 c where
  A w := m ((cfg0.win w).arr.view.loc (c.tc : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = BI.emp := by
  rw [show (Finset.univ : Finset (Fin cfg0.W)) = ∅ from rfl, bigSep_empty]

theorem owed_none (c : Dev nD) : owed ∅ c = 0 := Finset.sum_empty

theorem wp_id (c : Dev nD) (k : Dev nD → Prog (TpuEff nD τ sig (Elt F) Λ₀ .tc) PUnit) (Q : PUnit → sProp 𝕄) :
    Wp c (k c) Q ⊢ Wp c (.op .deviceId k) Q := by
  unfold Wp
  simp only [wp_deviceId]
  exact .rfl

/-- The body from the launch's state to the end's. -/
theorem wp_all' (c : Dev nD) : iprop(Φ₀ (F := F) m c ∗ (dats m 0 c).owesAt () t0_0.castSucc)
    ⊢ Wp c (bodyOn c) fun _ => iprop(Φ₁ m c ∗ (dats m 0 c).owesAt () t0_0.succ) := by
  unfold Φ₀ Φ₁ Dat.owesAt Pipeline.owesWithin
  rw [show (dats m 0 c).owed t0_0.castSucc = O₀ c from rfl, show (dats m 0 c).owed t0_0.succ = 0 from rfl]
  iintro ⟨⟨%K, #Hctx, Hidle, Hpre⟩, ⟨%W, %hW, HO⟩⟩
  imod (close_idle m K c) $$ [Hidle] with Hidle
  · isplitr; · iexact Hctx
    iexact Hidle
  iapply (wp_body m K c W)
  isplitr; · iexact Hctx
  isplitl [Hpre]; · iexact Hpre
  isplitl [HO]; · iexact HO
  unfold ow
  rw [owed_none]
  iintro Hpost ⟨%W', HO⟩
  isplitl [Hidle Hpost]
  · isplitl [Hidle] <;> iassumption
  iexists W'
  isplitr; · ipureintro; exact fun _ _ => Or.inl trivial
  iexact HO

/-- The same, from the read of the device's number on. -/
theorem wp_all (c : Dev nD) : iprop(Φ₀ (F := F) m c ∗ (dats m 0 c).owesAt () t0_0.castSucc)
    ⊢ Wp c (do let c ← Prog.lift .deviceId; bodyOn c) fun _ => iprop(Φ₁ m c ∗ (dats m 0 c).owesAt () t0_0.succ) := by
  show _ ⊢ Wp c (.op .deviceId fun c => bodyOn (F := F) c) fun _ => iprop(Φ₁ m c ∗ (dats m 0 c).owesAt () t0_0.succ)
  exact (wp_all' m c).trans (wp_id c _ _)

set_option maxRecDepth 16000 in
theorem body_obligation (c : Dev nD) : BodyObligation (dats (F := F) m 0 c) (defs₀ (F := F)) 𝒱₀ () Set.univ := fun t => by
  rw [fin_N0 t, bigSep_W, bigSep_W]
  show iprop(Φ₀ m c ∗ (dats m 0 c).owesAt () t0_0.castSucc ∗ BI.emp)
    ⊢ Wp c (bodyAt0 (F := F) t0_0) fun _ => iprop(Φ₁ m c ∗ (dats m 0 c).owesAt () t0_0.succ ∗ BI.emp)
  rw [body_eq, show iprop((dats m 0 c).owesAt () t0_0.castSucc ∗ BI.emp) = (dats m 0 c).owesAt () t0_0.castSucc from sep_emp_eq _,
    show iprop((dats m 0 c).owesAt () t0_0.succ ∗ BI.emp) = (dats m 0 c).owesAt () t0_0.succ from sep_emp_eq _]
  exact wp_all m c

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_eq_of_list cfg0.spec c Pipeline.Prefetch.none _ [main_arg0, main_v1] (by decide) (by decide)]
  show iprop((xFull m c ∗ ((c.tc : Thread nD τ).loc main_v1) ↦{fullShare} m ((c.tc : Thread nD τ).loc main_v1)) ∗ levAts L lv
    ∗ Pipeline.launchCred O₀ c ∗ prngReg c (ρ c) ∗ G' m c) ⊢ |={Set.univ}=> iprop(start m c ∗ emp)
  unfold start G' ctx recs
  iintro ⟨⟨Hx, Hv⟩, Hlev, Hcr, -, ⟨%K, ⟨H1, H2⟩, H3⟩⟩
  ihave Hc := (creds_intro (F := F) c) $$ Hcr
  ihave Ho := (out_split (F := F) c _) $$ Hv
  imodintro
  isplitl
  · iexists K
    isplitl [H1 H2 Hlev]
    · isplitl [H1]; · iexact H1
      isplitl [H2] <;> iassumption
    isplitl [H3]; · iexact H3
    isplitl [Hc]; · iexact Hc
    isplitl [Hx] <;> iassumption
  · iempintro

theorem waits (c : Dev nD) : (levAts L lv : sProp 𝕄) ⊢ Pipeline.cellsWaits cfgs (dats m) () 0 c :=
  Pipeline.cellsWaits_intro cfgs (dats m) () 0 c fun w => w.elim0

/-- The launch's own part of the ghost state. -/
def u₀ : UU :=
  (initOf (Pipeline.cells cfgs cellOf_inj) (Pipeline.launchToks cfgs cellOf_inj), (initOf cells duties, 1))

/-- What a device's memory holds when the program has ended. -/
def AtEnd (c : Dev nD) (s : MemSt nD τ sig (Elt F)) : Prop :=
  s.mem ((c.tc : Thread nD τ).loc main_arg0) = m ((c.tc : Thread nD τ).loc main_arg0) ∧ s.mem ((c.tc : Thread nD τ).loc main_v1) = outC m c

theorem final_read (c : Dev nD) (s' : Phys nD τ sig (Elt F)) :
    iprop((xFull m c ∗ ((c.tc : Thread nD τ).loc main_v1) ↦{fullShare} outC m c) ∗ SI s') ⊢ iprop(⌜AtEnd m c s'.mem⌝ ∗ SI s' : sProp 𝕄) := by
  unfold xFull AtEnd
  iintro ⟨⟨Hx, Hv⟩, HSI⟩
  icombine HSI Hx gives %hx
  icombine HSI Hv gives %hv
  isplitr
  · ipureintro
    exact ⟨Buf.eq_of_forall_mem_univ hx, Buf.eq_of_forall_mem_univ hv⟩
  · iexact HSI

set_option maxRecDepth 16000 in
/-- On the mesh of eight devices, for any float values, from any memory with zero counters: every weakly fair execution
    of the program terminates, and every final state has each device's argument unchanged, its result at the computed
    contents and every semaphore at zero. -/
theorem run_main : θ_run (defs (F := F)) (onTc (τ := τ) (main (F := F))) ⟨m, fun _ => 0, ρ⟩
    (fun r => (∀ c : Dev nD, AtEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HR⟩
      ihave H := (own_pair_emb embR _ _) $$ HR
      icases H with ⟨HX, -⟩
      imod (fund_cells m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ AtEnd m c s)
    (hY := fun c s' => by
      unfold done
      iintro ⟨⟨Hu, Hxv⟩, -, HSI⟩
      ihave H := (final_read m c s') $$ [Hxv HSI]
      · isplitl [Hxv] <;> iassumption
      icases H with ⟨%hm, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hm⟩
      iexact HSI)
    (hQ := fun _ h hs => ⟨fun c => (h c).2.2.2, sem_eq_zero hs fun c => (h c).2.2.1⟩)

end Cert.KernelIdeal.Own

end
-- ==== Proof.KI.Value.lean ====
/- What the result holds over the reals: on every device, at every element, the sum of the two devices' inputs that the
   reduction goes across. -/
module

public import proofs.«01_k».proof.Proof.KI.Run
public import Idealize.ShloMosaic.Lib.Pointwise
public import Idealize.ShloMosaic.Lib.Layout

@[expose] public section

noncomputable section

namespace Cert.KernelIdeal.Own

open Cert.KernelIdeal Cert.KernelIdeal.Gen

open Idealize.ShloMosaic Idealize.ShloMosaic.TcCoe
open Idealize.SL.Sem

variable (m : (ℓ : Loc nD τ sig) → Buf (Elt Ideal) ℓ)

/-- Device `c`'s input. -/
def arg (c : Dev nD) : FVec Ideal S16384x1024 .f32 := m ((c.tc : Thread nD τ).loc main_arg0)

/-- The sum of the inputs of device `c` and of the device across z. -/
def tot (c : Dev nD) : FVec Ideal S16384x1024 .f32 := fun i => FloatOps.addf (arg m c i) (arg m (zp c) i)

/-- Rounding, over the reals, changes nothing; -/
theorem rnd_ideal (v : Vec Ideal S512x1024 .f32) : rnd v = v := by
  unfold rnd; rw [shapeCast_id]; rfl
/-- neither does widening; -/
theorem wide_ideal (v : Vec Ideal S512x1024 .bf16) : wide v = v := by
  unfold wide; rw [shapeCast_id]; rfl
/-- and the sum is the elements' sum. -/
theorem add2_ideal (v w : Vec Ideal S512x1024 .f32) (j : S512x1024.Idx) : add2 (F := Ideal) v w j = FloatOps.addf (φ := .f32) (v j) (w j) := by
  unfold add2; rw [shapeCast_id]; rfl

/-- Whose quarter it is that a device writes. -/
def whose (c : Dev nD) : Qt → Dev nD
  | .own => c
  | .y => yn c
  | .x => xn c
  | .d => yn (xn c)

theorem hR_emb (c d : Dev nD) (q r : Qt) (p : Fin 8) (h : qn c q = qn d r) (j : S512x1024.Idx) : (hR c q p).emb j = (hR d r p).emb j := by
  have ho : qOff c p q = qOff d p r := by rw [qOff_eq, qOff_eq, h]
  funext a
  refine Fin.ext ?_
  show qOff c p q a + 1 * (j a).val = qOff d p r a + 1 * (j a).val
  rw [ho]

theorem xv_apply (c : Dev nD) (p : Fin 8) (j : S512x1024.Idx) : xv m c p j = arg m c ((hR c .own p).emb j) := rfl

theorem sm_apply (c : Dev nD) (p : Fin 8) (j : S512x1024.Idx) : sm m c p j = tot m c ((hR c .own p).emb j) := by
  unfold sm v0
  rw [rnd_ideal, rnd_ideal, add2_ideal, xv_apply, xv_apply,
    hR_emb (zp c) c .own .own p ((by decide : ∀ c : Dev nD, qn (zp c) .own = qn c .own) c)]
  rfl

/-- A piece that a device writes is the piece of the sum of the device whose quarter it is. -/
theorem outV_apply (c : Dev nD) (q : Qt) (p : Fin 8) (j : S512x1024.Idx) : outV m c q p j = tot m (whose c q) ((hR c q p).emb j) := by
  have hq : ∀ (c : Dev nD) (q : Qt), qn c q = qn (whose c q) .own := by decide
  rw [hR_emb c (whose c q) q .own p (hq c q), ← sm_apply]
  cases q <;> simp only [outV, whose, v1, rnd_ideal, wide_ideal]

/-- So if the sum is the same across every pair of devices, that is what every device's result holds. -/
theorem outC_eq (T : FVec Ideal S16384x1024 .f32) (hT : ∀ d, tot m d = T) (c : Dev nD) : outC m c = T := by
  funext i
  obtain ⟨s, -, hs⟩ := Finset.mem_biUnion.mp ((oR_cover c).symm ▸ Finset.mem_univ i)
  rw [← Rect.map_emb_univ, Finset.mem_map] at hs
  obtain ⟨j, -, rfl⟩ := hs
  exact (Rect.glue_emb (oR c) (oR_cover c) (oR_disjoint c) _ s j).trans
    ((outV_apply m c (oq s.val) (op s.val) j).trans (congrFun (hT _) _))

end Cert.KernelIdeal.Own

end
-- ==== Proof.KI.Join.lean ====
/- The equation over the reals: the sum of the two halves of the whole array's rows, which the reference computes, is what
   every device's result holds. -/
module

public import proofs.«01_k».proof.Proof.KI.Value
public import proofs.«01_k».proof.Proof.Gen.ReferenceIdeal
public import Idealize.ShloMosaic.Lib.ValueIdx

@[expose] public section

noncomputable section

namespace Cert.KernelIdeal.Own

open Cert.KernelIdeal Cert.KernelIdeal.Gen

open Idealize.ShloMosaic Idealize.ShloMosaic.TcCoe
open Idealize.SL.Sem

/-- The whole array's shape. -/
abbrev Whole : Shape := ⟨2, ![32768, 1024]⟩

/-- Row `i` of half `z` of the whole array. -/
def half (z : Fin 2) (i : S16384x1024.Idx) : Whole.Idx :=
  ix2 ⟨16384 * z.val + (i 0).val, by have : (i 0).val < 16384 := (i 0).isLt; have := z.isLt; omega⟩ (i 1)

/-- The sum of the halves. -/
def halves (x : FVec Ideal Whole .f32) : FVec Ideal S16384x1024 .f32 := fun i => FloatOps.addf (x (half 0 i)) (x (half 1 i))

/-- What the reference computes. -/
def refOut (x : FVec Ideal Whole .f32) : FVec Ideal S16384x1024 .f32 :=
  Host.reduceAdd (shapeCast Cert.ReferenceIdeal.S2x16384x1024 x Cert.ReferenceIdeal.Gen.shapeCasts_S32768x1024_S2x16384x1024)
    (constant Cert.ReferenceIdeal.S_ .f32 0x00000000#32) Cert.ReferenceIdeal.Gen.reducesTo_S2x16384x1024_S16384x1024_d0 Cert.ReferenceIdeal.Gen.h_S_

theorem cast_at (x : FVec Ideal Whole .f32) (z : Fin 2) (i : S16384x1024.Idx) :
    shapeCast Cert.ReferenceIdeal.S2x16384x1024 x Cert.ReferenceIdeal.Gen.shapeCasts_S32768x1024_S2x16384x1024
      (ix3 z ⟨(i 0).val, (i 0).isLt⟩ ⟨(i 1).val, (i 1).isLt⟩) = x (half z i) := by
  refine shapeCast_apply x _ _ _ ?_
  rw [Shape.rowMajor_val_two, Shape.rowMajor_val_three]
  show (16384 * z.val + (i 0).val) * 1024 + (i 1).val = (z.val * 16384 + (i 0).val) * 1024 + (i 1).val
  ring

theorem refOut_eq (x : FVec Ideal Whole .f32) : refOut x = halves x := by
  funext i
  unfold refOut
  rw [Host.reduceAdd_apply, Ideal.hostReduceAdd_def, Ideal.hostReduceAdd_r3_a0, Fin.sum_univ_two]
  refine (congrArg₂ (fun a b : EReal => a + b) (show _ = (0 : EReal) from Ideal.ofBits_zero_f32)
    (congrArg₂ (fun a b : EReal => a + b) (cast_at x 0 i) (cast_at x 1 i))).trans ?_
  rw [zero_add]; rfl

/-- Device `c`'s input is the half of its place on z. -/
theorem arg_half (m : (ℓ : Loc nD τ sig) → Buf (Elt Ideal) ℓ) (x : FVec Ideal Whole .f32) (c : Dev nD)
    (h : arg m c = Layout.blockN S16384x1024 Whole (Layout.meshBlock [2, 2, 2] ![[2], []] c) x) (i : S16384x1024.Idx) :
    arg m c i = x (half ⟨c.val % 2, Nat.mod_lt _ (by decide)⟩ i) := by
  rw [h, Layout.blockN_apply]
  refine congrArg x (funext fun a => Fin.ext ?_)
  rw [Layout.TilesN.idx_val]
  have h0 : ∀ c : Dev nD, Layout.meshLin [2, 2, 2] c.val [2] = c.val % 2 := by decide
  have h1 : ∀ c : Dev nD, Layout.meshLin [2, 2, 2] c.val [] = 0 := by decide
  fin_cases a
  · show Layout.meshLin [2, 2, 2] c.val [2] * 16384 + (i 0).val = 16384 * (c.val % 2) + (i 0).val
    rw [h0]; ring
  · show Layout.meshLin [2, 2, 2] c.val [] * 1024 + (i 1).val = (i 1).val
    rw [h1]; ring

/-- On every device the sum across z is the sum of the halves. -/
theorem tot_eq (m : (ℓ : Loc nD τ sig) → Buf (Elt Ideal) ℓ) (x : FVec Ideal Whole .f32)
    (h : ∀ c : Dev nD, arg m c = Layout.blockN S16384x1024 Whole (Layout.meshBlock [2, 2, 2] ![[2], []] c) x) (c : Dev nD) : tot m c = refOut x := by
  rw [refOut_eq]
  funext i
  show FloatOps.addf (arg m c i) (arg m (zp c) i) = FloatOps.addf (x (half 0 i)) (x (half 1 i))
  rw [arg_half m x c (h c), arg_half m x (zp c) (h (zp c))]
  have hz : ∀ c : Dev nD, (⟨c.val % 2, Nat.mod_lt _ (by decide)⟩, ⟨(zp c).val % 2, Nat.mod_lt _ (by decide)⟩) = ((0, 1) : Fin 2 × Fin 2)
      ∨ (⟨c.val % 2, Nat.mod_lt _ (by decide)⟩, ⟨(zp c).val % 2, Nat.mod_lt _ (by decide)⟩) = ((1, 0) : Fin 2 × Fin 2) := by decide
  rcases hz c with hc | hc
  · rw [(Prod.mk.inj hc).1, (Prod.mk.inj hc).2]
  · rw [(Prod.mk.inj hc).1, (Prod.mk.inj hc).2]
    exact add_comm (x (half 1 i) : EReal) (x (half 0 i))

/-- So every device's result is the reference's. -/
theorem out_ref (m : (ℓ : Loc nD τ sig) → Buf (Elt Ideal) ℓ) (x : FVec Ideal Whole .f32)
    (h : ∀ c : Dev nD, arg m c = Layout.blockN S16384x1024 Whole (Layout.meshBlock [2, 2, 2] ![[2], []] c) x) (c : Dev nD) : outC m c = refOut x :=
  outC_eq m (refOut x) (tot_eq m x h) c

end Cert.KernelIdeal.Own

end
-- ==== Proof.lean ====
/- The all-reduce across z on the 2×2×2 mesh: the kernel, over words and over the extended reals, and the reference run
   without fault, leave their argument unchanged and every semaphore at zero, and over the extended reals every device ends
   with the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Join
public import Idealize.ShloMosaic.Adequacy
public import Idealize.ShloMosaic.Init

@[expose] public section

noncomputable section

namespace Cert.Proof

open Idealize.ShloMosaic Idealize.SL.Sem

/-- The kernel over words: the arguments are unchanged and the semaphores read zero. -/
theorem frame_kernel : Cert.quiescent_Kernel (hKernel := Cert.Kernel.Gen.facts) := fun m ρ _ =>
  (θ_run _ _ _).mono (fun _ h => ⟨fun c => (h.1 c).1, h.2⟩) (Cert.Kernel.Own.run_main m ρ)

/-- The same over the extended reals. -/
theorem frame_ideal : Cert.quiescent_KernelIdeal (hKernelIdeal := Cert.KernelIdeal.Gen.facts) := fun m ρ _ =>
  (θ_run _ _ _).mono (fun _ h => ⟨fun c => (h.1 c).1, h.2⟩) (Cert.KernelIdeal.Own.run_main m ρ)

/-- The reference declares no semaphore, and its run leaves its argument unchanged. -/
theorem frame_reference : Cert.quiescent_ReferenceIdeal (hReferenceIdeal := Cert.ReferenceIdeal.Gen.facts) := fun m ρ _ =>
  (θ_run _ _ _).mono (fun _ h => ⟨fun c => (h c).2, funext fun g => nomatch g.2⟩) (Cert.ReferenceIdeal.Value.run m ρ)

/-- Over the extended reals every device's result is the reference's: the sum of the two halves of the rows. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.KernelIdeal.Own.refOut (m' (((0 : Dev Cert.ReferenceIdeal.nD).tc : Thread Cert.ReferenceIdeal.nD Cert.ReferenceIdeal.τ).loc Cert.ReferenceIdeal.main_arg0)),
    (θ_run _ _ _).mono (fun _ h c => ⟨(h.1 c).2.trans (Cert.KernelIdeal.Own.out_ref m _ hm c), (h.1 c).1⟩) (Cert.KernelIdeal.Own.run_main m ρ),
    (θ_run _ _ _).mono (fun _ h => ⟨(h 0).1, (h 0).2⟩) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
